-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_hw" .f32 0x3801742E#32 ((1 / 32400 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x180x180 : Shape := ⟨4, ![4, 256, 180, 180]⟩
abbrev S512x512 : Shape := ⟨2, ![512, 512]⟩
abbrev S512 : Shape := ⟨1, ![512]⟩
abbrev S512x3 : Shape := ⟨2, ![512, 3]⟩
abbrev S3 : Shape := ⟨1, ![3]⟩
abbrev S4x180x180x256 : Shape := ⟨4, ![4, 180, 180, 256]⟩
abbrev S4x32400x256 : Shape := ⟨3, ![4, 32400, 256]⟩
abbrev S256x512 : Shape := ⟨2, ![256, 512]⟩
abbrev S1x512 : Shape := ⟨2, ![1, 512]⟩
abbrev S1x3 : Shape := ⟨2, ![1, 3]⟩
abbrev S4x32400x3 : Shape := ⟨3, ![4, 32400, 3]⟩
abbrev S4x32400x1 : Shape := ⟨3, ![4, 32400, 1]⟩
abbrev S4x1x1 : Shape := ⟨3, ![4, 1, 1]⟩
abbrev S4x32400 : Shape := ⟨2, ![4, 32400]⟩
abbrev S4x180x180 : Shape := ⟨3, ![4, 180, 180]⟩
abbrev S4x1x180x180 : Shape := ⟨4, ![4, 1, 180, 180]⟩
abbrev S4x1 : Shape := ⟨2, ![4, 1]⟩
abbrev S1x2048x256 : Shape := ⟨3, ![1, 2048, 256]⟩
abbrev S1x2048x3 : Shape := ⟨3, ![1, 2048, 3]⟩
abbrev S1x2048x1 : Shape := ⟨3, ![1, 2048, 1]⟩
abbrev S1x1x1 : Shape := ⟨3, ![1, 1, 1]⟩
abbrev S2048x256 : Shape := ⟨2, ![2048, 256]⟩
abbrev S2048x512 : Shape := ⟨2, ![2048, 512]⟩
abbrev S2048x3 : Shape := ⟨2, ![2048, 3]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x32x180x180 : Shape := ⟨4, ![1, 32, 180, 180]⟩
abbrev S1x180x180 : Shape := ⟨3, ![1, 180, 180]⟩
abbrev S32x180x180 : Shape := ⟨3, ![32, 180, 180]⟩

abbrev nBuf : Space → Nat
  | .hbm => 28
  | .vmem => 29
  | .smem => 0
  | _ => 0

abbrev bufTy : (tb : Table) → Fin (tcTables nBuf tb) → BufTy
  | .hbm, ⟨0, _⟩ => ⟨S4x256x180x180, .f32⟩
  | .hbm, ⟨1, _⟩ => ⟨S4x256x180x180, .f32⟩
  | .hbm, ⟨2, _⟩ => ⟨S512x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S4x180x180x256, .f32⟩
  | .hbm, ⟨7, _⟩ => ⟨S4x32400x256, .f32⟩
  | .hbm, ⟨8, _⟩ => ⟨S4x180x180x256, .f32⟩
  | .hbm, ⟨9, _⟩ => ⟨S4x32400x256, .f32⟩
  | .hbm, ⟨10, _⟩ => ⟨S256x512, .f32⟩
  | .hbm, ⟨11, _⟩ => ⟨S256x512, .f32⟩
  | .hbm, ⟨12, _⟩ => ⟨S1x512, .f32⟩
  | .hbm, ⟨13, _⟩ => ⟨S1x3, .f32⟩
  | .hbm, ⟨14, _⟩ => ⟨S4x32400x3, .f32⟩
  | .hbm, ⟨15, _⟩ => ⟨S4x32400x3, .f32⟩
  | .hbm, ⟨16, _⟩ => ⟨S4x32400x1, .f32⟩
  | .hbm, ⟨17, _⟩ => ⟨S4x1x1, .f32⟩
  | .hbm, ⟨18, _⟩ => ⟨S4x32400x1, .f32⟩
  | .hbm, ⟨19, _⟩ => ⟨S4x32400, .f32⟩
  | .hbm, ⟨20, _⟩ => ⟨S4x180x180, .f32⟩
  | .hbm, ⟨21, _⟩ => ⟨S4x32400x1, .f32⟩
  | .hbm, ⟨22, _⟩ => ⟨S4x32400, .f32⟩
  | .hbm, ⟨23, _⟩ => ⟨S4x180x180, .f32⟩
  | .hbm, ⟨24, _⟩ => ⟨S4x256x180x180, .f32⟩
  | .hbm, ⟨25, _⟩ => ⟨S4x256x180x180, .f32⟩
  | .hbm, ⟨26, _⟩ => ⟨S4x1x180x180, .f32⟩
  | .hbm, ⟨27, _⟩ => ⟨S4x1, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x3, .f32⟩
  | .local _ .vmem, ⟨8, _⟩ => ⟨S1x3, .f32⟩
  | .local _ .vmem, ⟨9, _⟩ => ⟨S1x2048x3, .f32⟩
  | .local _ .vmem, ⟨10, _⟩ => ⟨S1x2048x3, .f32⟩
  | .local _ .vmem, ⟨11, _⟩ => ⟨S1x2048x3, .f32⟩
  | .local _ .vmem, ⟨12, _⟩ => ⟨S1x2048x3, .f32⟩
  | .local _ .vmem, ⟨13, _⟩ => ⟨S1x2048x1, .f32⟩
  | .local _ .vmem, ⟨14, _⟩ => ⟨S1x2048x1, .f32⟩
  | .local _ .vmem, ⟨15, _⟩ => ⟨S1x1x1, .f32⟩
  | .local _ .vmem, ⟨16, _⟩ => ⟨S1x1x1, .f32⟩
  | .local _ .vmem, ⟨17, _⟩ => ⟨S1x32x180x180, .f32⟩
  | .local _ .vmem, ⟨18, _⟩ => ⟨S1x32x180x180, .f32⟩
  | .local _ .vmem, ⟨19, _⟩ => ⟨S1x32x180x180, .f32⟩
  | .local _ .vmem, ⟨20, _⟩ => ⟨S1x32x180x180, .f32⟩
  | .local _ .vmem, ⟨21, _⟩ => ⟨S1x180x180, .f32⟩
  | .local _ .vmem, ⟨22, _⟩ => ⟨S1x180x180, .f32⟩
  | .local _ .vmem, ⟨23, _⟩ => ⟨S1x180x180, .f32⟩
  | .local _ .vmem, ⟨24, _⟩ => ⟨S1x180x180, .f32⟩
  | .local _ .vmem, ⟨25, _⟩ => ⟨S1x32x180x180, .f32⟩
  | .local _ .vmem, ⟨26, _⟩ => ⟨S1x32x180x180, .f32⟩
  | .local _ .vmem, ⟨27, _⟩ => ⟨S1x32x180x180, .f32⟩
  | .local _ .vmem, ⟨28, _⟩ => ⟨S1x32x180x180, .f32⟩
  | _, _ => ⟨S4x256x180x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0_3 : Ref sig .tc := ⟨.hbm, 14, rfl⟩
abbrev main_v0_4 : Ref sig .tc := ⟨.hbm, 15, rfl⟩
abbrev main_call0_v8_2 : Ref sig .tc := ⟨.hbm, 16, rfl⟩
abbrev main_call0_v8_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x180x180 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x180x180 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x180x180 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x180x180 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x32x180x180 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x32x180x180 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "inv_hw" => some ((1 / 32400 : ℝ) : EReal)
  | _ => none
-- ==== ReferenceIdeal.lean ====
abbrev S4x256x180x180 : Shape := ⟨4, ![4, 256, 180, 180]⟩
abbrev S512x512 : Shape := ⟨2, ![512, 512]⟩
abbrev S512 : Shape := ⟨1, ![512]⟩
abbrev S512x3 : Shape := ⟨2, ![512, 3]⟩
abbrev S3 : Shape := ⟨1, ![3]⟩
abbrev S4x180x180x256 : Shape := ⟨4, ![4, 180, 180, 256]⟩
abbrev S4x32400x256 : Shape := ⟨3, ![4, 32400, 256]⟩
abbrev S4x32400x512 : Shape := ⟨3, ![4, 32400, 512]⟩
abbrev S1x1x512 : Shape := ⟨3, ![1, 1, 512]⟩
abbrev S_ : Shape := ⟨0, ![]⟩
abbrev S4x32400x3 : Shape := ⟨3, ![4, 32400, 3]⟩
abbrev S1x1x3 : Shape := ⟨3, ![1, 1, 3]⟩
abbrev S4x32400 : Shape := ⟨2, ![4, 32400]⟩
abbrev S4x32400x1 : Shape := ⟨3, ![4, 32400, 1]⟩
abbrev S4x32400x1x1 : Shape := ⟨4, ![4, 32400, 1, 1]⟩
abbrev S1x1x1x3 : Shape := ⟨4, ![1, 1, 1, 3]⟩
abbrev S4x32400x1x3 : Shape := ⟨4, ![4, 32400, 1, 3]⟩
abbrev S4x180x180x1 : Shape := ⟨4, ![4, 180, 180, 1]⟩
abbrev S4x1x180x180 : Shape := ⟨4, ![4, 1, 180, 180]⟩
abbrev S4x1 : Shape := ⟨2, ![4, 1]⟩

abbrev nBuf : Space → Nat
  | .hbm => 75
  | .vmem => 0
  | .smem => 0
  | _ => 0

abbrev bufTy : (tb : Table) → Fin (tcTables nBuf tb) → BufTy
  | .hbm, ⟨0, _⟩ => ⟨S4x256x180x180, .f32⟩
  | .hbm, ⟨1, _⟩ => ⟨S4x256x180x180, .f32⟩
  | .hbm, ⟨2, _⟩ => ⟨S512x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S4x180x180x256, .f32⟩
  | .hbm, ⟨7, _⟩ => ⟨S4x32400x256, .f32⟩
  | .hbm, ⟨8, _⟩ => ⟨S4x180x180x256, .f32⟩
  | .hbm, ⟨9, _⟩ => ⟨S4x32400x256, .f32⟩
  | .hbm, ⟨10, _⟩ => ⟨S4x32400x512, .f32⟩
  | .hbm, ⟨11, _⟩ => ⟨S4x32400x512, .f32⟩
  | .hbm, ⟨12, _⟩ => ⟨S1x1x512, .f32⟩
  | .hbm, ⟨13, _⟩ => ⟨S4x32400x512, .f32⟩
  | .hbm, ⟨14, _⟩ => ⟨S4x32400x512, .f32⟩
  | .hbm, ⟨15, _⟩ => ⟨S4x32400x512, .f32⟩
  | .hbm, ⟨16, _⟩ => ⟨S4x32400x512, .f32⟩
  | .hbm, ⟨17, _⟩ => ⟨S_, .f32⟩
  | .hbm, ⟨18, _⟩ => ⟨S4x32400x512, .f32⟩
  | .hbm, ⟨19, _⟩ => ⟨S4x32400x512, .f32⟩
  | .hbm, ⟨20, _⟩ => ⟨S_, .f32⟩
  | .hbm, ⟨21, _⟩ => ⟨S4x32400x512, .f32⟩
  | .hbm, ⟨22, _⟩ => ⟨S4x32400x512, .f32⟩
  | .hbm, ⟨23, _⟩ => ⟨S4x32400x512, .f32⟩
  | .hbm, ⟨24, _⟩ => ⟨S4x32400x3, .f32⟩
  | .hbm, ⟨25, _⟩ => ⟨S1x1x3, .f32⟩
  | .hbm, ⟨26, _⟩ => ⟨S4x32400x3, .f32⟩
  | .hbm, ⟨27, _⟩ => ⟨S4x32400x3, .f32⟩
  | .hbm, ⟨28, _⟩ => ⟨S_, .f32⟩
  | .hbm, ⟨29, _⟩ => ⟨S4x32400, .f32⟩
  | .hbm, ⟨30, _⟩ => ⟨S_, .f32⟩
  | .hbm, ⟨31, _⟩ => ⟨S4x32400, .f32⟩
  | .hbm, ⟨32, _⟩ => ⟨S4x32400, .f32⟩
  | .hbm, ⟨33, _⟩ => ⟨S4x32400x1, .f32⟩
  | .hbm, ⟨34, _⟩ => ⟨S4x32400x3, .f32⟩
  | .hbm, ⟨35, _⟩ => ⟨S4x32400x3, .f32⟩
  | .hbm, ⟨36, _⟩ => ⟨S4x32400x3, .f32⟩
  | .hbm, ⟨37, _⟩ => ⟨S_, .f32⟩
  | .hbm, ⟨38, _⟩ => ⟨S4x32400, .f32⟩
  | .hbm, ⟨39, _⟩ => ⟨S4x32400x1, .f32⟩
  | .hbm, ⟨40, _⟩ => ⟨S4x32400x3, .f32⟩
  | .hbm, ⟨41, _⟩ => ⟨S4x32400x3, .f32⟩
  | .hbm, ⟨42, _⟩ => ⟨S4x32400x1, .f32⟩
  | .hbm, ⟨43, _⟩ => ⟨S4x32400x1, .i32⟩
  | .hbm, ⟨44, _⟩ => ⟨S4x32400x1x1, .i32⟩
  | .hbm, ⟨45, _⟩ => ⟨S1x1x1x3, .i32⟩
  | .hbm, ⟨46, _⟩ => ⟨S4x32400x1x3, .i32⟩
  | .hbm, ⟨47, _⟩ => ⟨S4x32400x1x3, .i32⟩
  | .hbm, ⟨48, _⟩ => ⟨S4x32400x1x3, .i1⟩
  | .hbm, ⟨49, _⟩ => ⟨S4x32400x1x3, .f32⟩
  | .hbm, ⟨50, _⟩ => ⟨S_, .f32⟩
  | .hbm, ⟨51, _⟩ => ⟨S4x32400x3, .f32⟩
  | .hbm, ⟨52, _⟩ => ⟨S4x32400x3, .f32⟩
  | .hbm, ⟨53, _⟩ => ⟨S4x32400x1, .f32⟩
  | .hbm, ⟨54, _⟩ => ⟨S4x32400x1, .f32⟩
  | .hbm, ⟨55, _⟩ => ⟨S4x32400x1, .f32⟩
  | .hbm, ⟨56, _⟩ => ⟨S_, .f32⟩
  | .hbm, ⟨57, _⟩ => ⟨S4x32400x1, .f32⟩
  | .hbm, ⟨58, _⟩ => ⟨S4x32400x1, .i1⟩
  | .hbm, ⟨59, _⟩ => ⟨S4x32400x1, .f32⟩
  | .hbm, ⟨60, _⟩ => ⟨S4x32400x256, .f32⟩
  | .hbm, ⟨61, _⟩ => ⟨S4x32400x256, .f32⟩
  | .hbm, ⟨62, _⟩ => ⟨S4x32400x256, .f32⟩
  | .hbm, ⟨63, _⟩ => ⟨S4x32400x256, .f32⟩
  | .hbm, ⟨64, _⟩ => ⟨S4x180x180x256, .f32⟩
  | .hbm, ⟨65, _⟩ => ⟨S4x256x180x180, .f32⟩
  | .hbm, ⟨66, _⟩ => ⟨S4x180x180x256, .f32⟩
  | .hbm, ⟨67, _⟩ => ⟨S4x256x180x180, .f32⟩
  | .hbm, ⟨68, _⟩ => ⟨S4x180x180x1, .f32⟩
  | .hbm, ⟨69, _⟩ => ⟨S4x1x180x180, .f32⟩
  | .hbm, ⟨70, _⟩ => ⟨S_, .f32⟩
  | .hbm, ⟨71, _⟩ => ⟨S4x1, .f32⟩
  | .hbm, ⟨72, _⟩ => ⟨S_, .f32⟩
  | .hbm, ⟨73, _⟩ => ⟨S4x1, .f32⟩
  | .hbm, ⟨74, _⟩ => ⟨S4x1, .f32⟩
  | _, _ => ⟨S4x256x180x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_values : Ref sig .tc := ⟨.hbm, 42, rfl⟩
abbrev main_indices : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Proof.GateBody.lean ====
/-
  The gate kernel's body, run once on whole staging buffers: what each output buffer holds at its return, as the body's own
  payloads of what the input buffers held.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

/-! ## What the body leaves, of what its input buffers hold -/

section Payloads

variable (x2 x3 : Vec F S1x2048x256 .f32) (x4 x5 : Vec F S256x512 .f32) (x6 : Vec F S1x512 .f32) (x7 : Vec F S512x3 .f32) (x8 : Vec F S1x3 .f32)

/-- The tile's probabilities; -/
def gProbs : FVec F S1x2048x3 .f32 := k0_pay15 (k0_pay4 x2 x3 x4 x5 x6 x7 x8)
/-- its gate values; -/
def gGate : FVec F S1x2048x3 .f32 :=
  k0_pay16 (k0_pay5 x2 x3 x4 x5 x6 x7 x8) (k0_pay6 x2 x3 x4 x5 x6 x7 x8) (k0_pay7 x2 x3 x4 x5 x6 x7 x8) (k0_pay8 x2 x3 x4 x5 x6 x7 x8) (k0_pay9 x2 x3 x4 x5 x6 x7 x8)
/-- its keep mask; -/
def gKeep : FVec F S1x2048x1 .f32 :=
  k0_pay17 (k0_pay5 x2 x3 x4 x5 x6 x7 x8) (k0_pay6 x2 x3 x4 x5 x6 x7 x8) (k0_pay7 x2 x3 x4 x5 x6 x7 x8) (k0_pay8 x2 x3 x4 x5 x6 x7 x8) (k0_pay9 x2 x3 x4 x5 x6 x7 x8)
/-- the sum of the keep mask over the tile's tokens inside the array, `n` the tile's number. -/
def gSum (n : ℕ) : FVec F S1x1x1 .f32 :=
  k0_pay18 (BitVec.ofNat 32 n) (k0_pay5 x2 x3 x4 x5 x6 x7 x8) (k0_pay6 x2 x3 x4 x5 x6 x7 x8) (k0_pay7 x2 x3 x4 x5 x6 x7 x8) (k0_pay8 x2 x3 x4 x5 x6 x7 x8) (k0_pay9 x2 x3 x4 x5 x6 x7 x8)

end Payloads

/-- What the body's run leaves in the ratio's buffer at tile `n`, from the tile's own sum `s` and what the buffer held `d`: zeroed
    first at the first tile, the sum added, scaled at the last tile. -/
def ratioStep (n : ℕ) (s d : FVec F S1x1x1 .f32) : FVec F S1x1x1 .f32 :=
  if n = 15 then k0_pay3 (k0_pay2 s d) else if n = 0 then k0_pay2 s k0_pay1 else k0_pay2 s d

theorem ratioStep_last {n : ℕ} (h : n = 15) (s d : FVec F S1x1x1 .f32) : ratioStep n s d = k0_pay3 (k0_pay2 s d) := if_pos h
theorem ratioStep_first {n : ℕ} (h : n = 0) (s d : FVec F S1x1x1 .f32) : ratioStep n s d = k0_pay2 s k0_pay1 :=
  (if_neg (by omega)).trans (if_pos h)
theorem ratioStep_mid {n : ℕ} (h : ¬ n = 0) (h' : ¬ n = 15) (s d : FVec F S1x1x1 .f32) : ratioStep n s d = k0_pay2 s d :=
  (if_neg h').trans (if_neg h)

/-! ## The run -/

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

/-- A load of the whole buffer reads its contents; -/
theorem readAt_all {S : Shape} {e : EltTy} (M : Memref sig .tc .vmem S e) (f : M.view.ty.Contents (Elt F)) {off : Fin S.rank → ℕ}
    (h : off = fun _ => 0) (inb : ∀ a, off a + S.size a ≤ S.size a) :
    M.view.readAt (Elt F) (Rect.unit (s := S) off S.size inb).toLoadRect f = M.view.read (Elt F) f :=
  (View.readAt_eq_ld M.view f _).trans (View.ld_unit_zero h inb _)

/-- a store over it, the last, leaves its payload. -/
theorem read_writes_all {S : Shape} {e : EltTy} (M : Memref sig .tc .vmem S e) (f : M.view.ty.Contents (Elt F)) {off : Fin S.rank → ℕ}
    (h : off = fun _ => 0) (inb : ∀ a, off a + S.size a ≤ S.size a) (w : S.Idx → Elt F e) (L : List (View.Piece (Elt F) S e)) :
    M.view.read (Elt F) (M.view.writes (Elt F) f ((⟨Rect.unit (s := S) off S.size inb, w⟩ : View.Piece (Elt F) S e) :: L)) = w := by
  rw [View.read_writes_eq_canon _ _ _ fun y => ⟨_, List.mem_cons_self, View.mem_set_unit_zero h inb y⟩, View.canon_cons_unit_zero h inb]

/-- The body's two branch conditions at tile `n`. -/
theorem first_iff {n : ℕ} (h : n < 16) :
    (Scalar.cmpi .ne (Scalar.extui (Scalar.cmpi .eq (BitVec.ofNat 32 n) 0#32)) 0#32 : BitVec 1) = 1#1 ↔ n = 0 := by
  revert n; decide
theorem last_iff {n : ℕ} (h : n < 16) :
    (Scalar.cmpi .ne (Scalar.extui (Scalar.cmpi .eq (BitVec.ofNat 32 n) 15#32)) 0#32 : BitVec 1) = 1#1 ↔ n = 15 := by
  revert n; decide

variable (c : Dev nD) (i : grid0.Coords)

set_option maxHeartbeats 2000000 in
/-- From the eleven staging buffers held whole, the gate kernel runs to its return: the inputs as they were, the first three outputs
    at the tile's probabilities, gate values and keep mask, the ratio's buffer one step on. -/
theorem gate_run
    (arg2 : Memref sig .tc .vmem S1x2048x256 .f32) (harg2 : arg2.IsWhole) (arg3 : Memref sig .tc .vmem S1x2048x256 .f32) (harg3 : arg3.IsWhole)
    (arg4 : Memref sig .tc .vmem S256x512 .f32) (harg4 : arg4.IsWhole) (arg5 : Memref sig .tc .vmem S256x512 .f32) (harg5 : arg5.IsWhole)
    (arg6 : Memref sig .tc .vmem S1x512 .f32) (harg6 : arg6.IsWhole) (arg7 : Memref sig .tc .vmem S512x3 .f32) (harg7 : arg7.IsWhole)
    (arg8 : Memref sig .tc .vmem S1x3 .f32) (harg8 : arg8.IsWhole) (arg9 : Memref sig .tc .vmem S1x2048x3 .f32) (harg9 : arg9.IsWhole)
    (arg10 : Memref sig .tc .vmem S1x2048x3 .f32) (harg10 : arg10.IsWhole) (arg11 : Memref sig .tc .vmem S1x2048x1 .f32) (harg11 : arg11.IsWhole)
    (arg12 : Memref sig .tc .vmem S1x1x1 .f32) (harg12 : arg12.IsWhole)
    (x2 x3 : Vec F S1x2048x256 .f32) (x4 x5 : Vec F S256x512 .f32) (x6 : Vec F S1x512 .f32) (x7 : Vec F S512x3 .f32) (x8 : Vec F S1x3 .f32)
    (d9 d10 : Vec F S1x2048x3 .f32) (d11 : Vec F S1x2048x1 .f32) (d12 : Vec F S1x1x1 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare d12)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
              ∗ owns (c : Thread nD τ) arg9 fullShare (gProbs x2 x3 x4 x5 x6 x7 x8) ∗ owns (c : Thread nD τ) arg10 fullShare (gGate x2 x3 x4 x5 x6 x7 x8)
              ∗ owns (c : Thread nD τ) arg11 fullShare (gKeep x2 x3 x4 x5 x6 x7 x8)
              ∗ owns (c : Thread nD τ) arg12 fullShare (ratioStep (i 1).val (gSum x2 x3 x4 x5 x6 x7 x8 (i 1).val) d12)) -∗ K ⟨⟩))
      ⊢ wp frame (wpE (defs₀ (F := F)) Variants.none c none) Set.univ
          (cc0__gate_kernel i arg2 harg2 arg3 harg3 arg4 harg4 arg5 harg5 arg6 harg6 arg7 harg7 arg8 harg8 arg9 harg9 arg10 harg10 arg11 harg11 arg12 harg12) K := by
  have hn : (i 1).val < 16 := (i 1).isLt
  simp only [cc0__gate_kernel_eq_skeleton]; unfold cc0__gate_kernel_skel
  simp only [k0_part1_eq_skeleton, k0_part2_eq_skeleton]; unfold k0_part1_skel k0_part2_skel
  unfold owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, Hk⟩
  have r2 := (readAt_all (S := S1x2048x256) arg2 f2 z3 inb_S1x2048x256_S1x2048x256_0_0_0).trans e2
  have r3 := (readAt_all (S := S1x2048x256) arg3 f3 z3 inb_S1x2048x256_S1x2048x256_0_0_0).trans e3
  have r4 := (readAt_all (S := S256x512) arg4 f4 z2 inb_S256x512_S256x512_0_0).trans e4
  have r5 := (readAt_all (S := S256x512) arg5 f5 z2 inb_S256x512_S256x512_0_0).trans e5
  have r6 := (readAt_all (S := S1x512) arg6 f6 z2 inb_S1x512_S1x512_0_0).trans e6
  have r7 := (readAt_all (S := S512x3) arg7 f7 z2 inb_S512x3_S512x3_0_0).trans e7
  have r8 := (readAt_all (S := S1x3) arg8 f8 z2 inb_S1x3_S1x3_0_0).trans e8
  have r12 := (readAt_all (S := S1x1x1) arg12 f12 z3 inb_S1x1x1_S1x1x1_0_0_0).trans e12
  by_cases hl : (i 1).val = 15
  · have h1 := (last_iff hn).mpr hl
    have h0 : ¬ _ := fun h => absurd ((first_iff hn).mp h) (by omega)
    sl_exec (disch := first | exact h0 | exact h1)
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro
      refine (read_writes_all (S := S1x2048x3) arg9 _ z3 _ _ _).trans ?_
      rfl
    isplitl [H10]
    · iexists _; isplitr; swap; · iexact H10
      ipureintro
      refine (read_writes_all (S := S1x2048x3) arg10 _ z3 _ _ _).trans ?_
      rfl
    isplitl [H11]
    · iexists _; isplitr; swap; · iexact H11
      ipureintro
      refine (read_writes_all (S := S1x2048x1) arg11 _ z3 _ _ _).trans ?_
      rfl
    iexists _; isplitr; swap; · iexact H12
    ipureintro
    refine (read_writes_all (S := S1x1x1) arg12 _ z3 _ _ _).trans ?_
    refine Eq.trans ?_ (ratioStep_last (F := F) hl _ _).symm; refine congrArg (k0_pay3 (F := F)) ?_; unfold gate_run.sl.v85; exact View.readCov_unit_zero (S := S1x1x1) _ z3 _ _
  · have h1 : ¬ _ := fun h => hl ((last_iff hn).mp h)
    by_cases hz : (i 1).val = 0
    · have h0 := (first_iff hn).mpr hz
      sl_exec (disch := first | exact h0 | exact h1)
      sl_step
      iapply Hk
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      isplitl [H5]
      · iexists _; isplitr; swap; · iexact H5
        ipureintro; exact e5
      isplitl [H6]
      · iexists _; isplitr; swap; · iexact H6
        ipureintro; exact e6
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro
        refine (read_writes_all (S := S1x2048x3) arg9 _ z3 _ _ _).trans ?_
        rfl
      isplitl [H10]
      · iexists _; isplitr; swap; · iexact H10
        ipureintro
        refine (read_writes_all (S := S1x2048x3) arg10 _ z3 _ _ _).trans ?_
        rfl
      isplitl [H11]
      · iexists _; isplitr; swap; · iexact H11
        ipureintro
        refine (read_writes_all (S := S1x2048x1) arg11 _ z3 _ _ _).trans ?_
        rfl
      iexists _; isplitr; swap; · iexact H12
      ipureintro
      refine (read_writes_all (S := S1x1x1) arg12 _ z3 _ _ _).trans ?_
      refine Eq.trans ?_ (ratioStep_first hz _ _).symm; refine congrArg (k0_pay2 (F := F) _) ?_; unfold gate_run.sl.v78; exact View.readCov_unit_zero (S := S1x1x1) _ z3 _ _
    · have h0 : ¬ _ := fun h => hz ((first_iff hn).mp h)
      sl_exec (disch := first | exact h0 | exact h1)
      sl_step
      iapply Hk
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      isplitl [H5]
      · iexists _; isplitr; swap; · iexact H5
        ipureintro; exact e5
      isplitl [H6]
      · iexists _; isplitr; swap; · iexact H6
        ipureintro; exact e6
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro
        refine (read_writes_all (S := S1x2048x3) arg9 _ z3 _ _ _).trans ?_
        rfl
      isplitl [H10]
      · iexists _; isplitr; swap; · iexact H10
        ipureintro
        refine (read_writes_all (S := S1x2048x3) arg10 _ z3 _ _ _).trans ?_
        rfl
      isplitl [H11]
      · iexists _; isplitr; swap; · iexact H11
        ipureintro
        refine (read_writes_all (S := S1x2048x1) arg11 _ z3 _ _ _).trans ?_
        rfl
      iexists _; isplitr; swap; · iexact H12
      ipureintro
      refine (read_writes_all (S := S1x1x1) arg12 _ z3 _ _ _).trans ?_
      exact (ratioStep_mid hz hl _ _).symm

end Cert.KernelIdeal.Hand

end
-- ==== Proof.GateData.lean ====
/-
  The gating call's proof data over the contents `W` its arrays hold when it starts: what every staging buffer holds after
  the body at each grid point. Windows 0 and 1 run past the end of their arrays at a batch's last tile, so their
  buffers are named on the rows inside the array and filled out with zeros elsewhere.
-/
module

public import proofs.«01_k».proof.Proof.GateBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [Named F]
variable {Ix : Type} [DecidableEq Ix] {U : Type} [URA U] {Lvl : Type} [Preorder Lvl]

local notation "𝕄" => MT nD τ sig Ix (Elt F) ℕ U Lvl

variable (W : Dev nD → Valuation τ sig (Elt F)) (c : Dev nD)

/-- The two token blocks of a point, on the rows inside their arrays. -/
def blkC (t : Fin cfg0.N) : (win0_0.xblock (grid0.coords t)).Idx → Elt F .f32 :=
  (win0_0.blk t).view.read (Elt F) (W c main_call0_v1)
def blkL (t : Fin cfg0.N) : (win0_1.xblock (grid0.coords t)).Idx → Elt F .f32 :=
  (win0_1.blk t).view.read (Elt F) (W c main_call0_v3)

/-- The two token blocks as staged, filled out with `d` past the array's end. -/
def tokC (t : Fin cfg0.N) (d : Vec F S1x2048x256 .f32) : Vec F S1x2048x256 .f32 := win0_0.fill (grid0.coords t) d (blkC W c t)
def tokL (t : Fin cfg0.N) (d : Vec F S1x2048x256 .f32) : Vec F S1x2048x256 .f32 := win0_1.fill (grid0.coords t) d (blkL W c t)

/-- The weights and biases, whole at every point. -/
def wA (t : Fin cfg0.N) : Vec F S256x512 .f32 := (win0_2.blk t).view.read (Elt F) (W c main_call0_v4)
def wB (t : Fin cfg0.N) : Vec F S256x512 .f32 := (win0_3.blk t).view.read (Elt F) (W c main_call0_v5)
def bA (t : Fin cfg0.N) : Vec F S1x512 .f32 := (win0_4.blk t).view.read (Elt F) (W c main_call0_v6)
def wO (t : Fin cfg0.N) : Vec F S512x3 .f32 := (win0_5.blk t).view.read (Elt F) (W c main_arg4)
def bO (t : Fin cfg0.N) : Vec F S1x3 .f32 := (win0_6.blk t).view.read (Elt F) (W c main_call0_v7)

/-- The filler of the named contents. -/
def zfill : Vec F S1x2048x256 .f32 := fun _ => Scalar.ofBits .f32 0#32

/-- The four results of the body at a point, the rows past the arrays' ends filled out with `d0` and `d1`. -/
def outP (t : Fin cfg0.N) (d0 d1 : Vec F S1x2048x256 .f32) : Vec F S1x2048x3 .f32 :=
  gProbs (tokC W c t d0) (tokL W c t d1) (wA W c t) (wB W c t) (bA W c t) (wO W c t) (bO W c t)
def outG (t : Fin cfg0.N) (d0 d1 : Vec F S1x2048x256 .f32) : Vec F S1x2048x3 .f32 :=
  gGate (tokC W c t d0) (tokL W c t d1) (wA W c t) (wB W c t) (bA W c t) (wO W c t) (bO W c t)
def outK (t : Fin cfg0.N) (d0 d1 : Vec F S1x2048x256 .f32) : Vec F S1x2048x1 .f32 :=
  gKeep (tokC W c t d0) (tokL W c t d1) (wA W c t) (wB W c t) (bA W c t) (wO W c t) (bO W c t)
def outS (t : Fin cfg0.N) (d0 d1 : Vec F S1x2048x256 .f32) : FVec F S1x1x1 .f32 :=
  gSum (tokC W c t d0) (tokL W c t d1) (wA W c t) (wB W c t) (bA W c t) (wO W c t) (bO W c t) (grid0.coords t 1).val

/-- The mean's accumulator after the point `n`. -/
def accR (n : ℕ) (hn : n < cfg0.N) : FVec F S1x1x1 .f32 :=
  match n with
  | 0 => ratioStep (grid0.coords ⟨0, hn⟩ 1).val (outS W c ⟨0, hn⟩ zfill zfill) (k0_pay1 (F := F))
  | k + 1 => ratioStep (grid0.coords ⟨k + 1, hn⟩ 1).val (outS W c ⟨k + 1, hn⟩ zfill zfill) (accR k (Nat.lt_of_succ_lt hn))

/-- What the core holds beside its windows: the buffers no window stages through, and its generator register. -/
def restΦ : sProp 𝕄 := iprop(Pipeline.scopedRest (Val := Elt F) spec0 c ∗ ∃ r, prngReg c r)

/-- The proof data: inputs left in place, each result at the body's value, the mean accumulated over a batch's tiles. -/
def gDat : Dat τ (Elt F) Ix ℕ U Lvl cfg0 c where
  A w := W c (Proc.devRef .tc (Pipeline.arrRef spec0 w))
  after w t := match w with
    | ⟨0, _⟩ => tokC W c t zfill
    | ⟨1, _⟩ => tokL W c t zfill
    | ⟨2, _⟩ => wA W c t
    | ⟨3, _⟩ => wB W c t
    | ⟨4, _⟩ => bA W c t
    | ⟨5, _⟩ => wO W c t
    | ⟨6, _⟩ => bO W c t
    | ⟨7, _⟩ => outP W c t zfill zfill
    | ⟨8, _⟩ => outG W c t zfill zfill
    | ⟨9, _⟩ => outK W c t zfill zfill
    | ⟨10, _⟩ => accR W c t.val t.isLt
  Φ _ := restΦ c
  q _ := fullShare
  owed _ := 0

/-- What the body finds in each input's staging buffer. -/
theorem before_0 (t : Fin cfg0.N) (d) : (gDat (Ix := Ix) (U := U) (Lvl := Lvl) W c).before (0 : Fin 11) t d = tokC W c t d := by
  unfold Dat.before; rw [if_pos (fetch0_0 t)]; rfl
theorem before_1 (t : Fin cfg0.N) (d) : (gDat (Ix := Ix) (U := U) (Lvl := Lvl) W c).before (1 : Fin 11) t d = tokL W c t d := by
  unfold Dat.before; rw [if_pos (fetch0_1 t)]; rfl
theorem before_2 (t : Fin cfg0.N) (d) : (gDat (Ix := Ix) (U := U) (Lvl := Lvl) W c).before (2 : Fin 11) t d = wA W c t :=
  ((gDat (Ix := Ix) (U := U) (Lvl := Lvl) W c).before_in_eq_fetched (2 : Fin 11) rfl (fun _ => rfl) (fun _ _ _ => rfl) (fun _ => rfl) t d).trans rfl
theorem before_3 (t : Fin cfg0.N) (d) : (gDat (Ix := Ix) (U := U) (Lvl := Lvl) W c).before (3 : Fin 11) t d = wB W c t :=
  ((gDat (Ix := Ix) (U := U) (Lvl := Lvl) W c).before_in_eq_fetched (3 : Fin 11) rfl (fun _ => rfl) (fun _ _ _ => rfl) (fun _ => rfl) t d).trans rfl
theorem before_4 (t : Fin cfg0.N) (d) : (gDat (Ix := Ix) (U := U) (Lvl := Lvl) W c).before (4 : Fin 11) t d = bA W c t :=
  ((gDat (Ix := Ix) (U := U) (Lvl := Lvl) W c).before_in_eq_fetched (4 : Fin 11) rfl (fun _ => rfl) (fun _ _ _ => rfl) (fun _ => rfl) t d).trans rfl
theorem before_5 (t : Fin cfg0.N) (d) : (gDat (Ix := Ix) (U := U) (Lvl := Lvl) W c).before (5 : Fin 11) t d = wO W c t :=
  ((gDat (Ix := Ix) (U := U) (Lvl := Lvl) W c).before_in_eq_fetched (5 : Fin 11) rfl (fun _ => rfl) (fun _ _ _ => rfl) (fun _ => rfl) t d).trans rfl
theorem before_6 (t : Fin cfg0.N) (d) : (gDat (Ix := Ix) (U := U) (Lvl := Lvl) W c).before (6 : Fin 11) t d = bO W c t :=
  ((gDat (Ix := Ix) (U := U) (Lvl := Lvl) W c).before_in_eq_fetched (6 : Fin 11) rfl (fun _ => rfl) (fun _ _ _ => rfl) (fun _ => rfl) t d).trans rfl

/-- The accumulator's buffer at a point that does not begin a batch. -/
theorem before_10_acc (t : Fin cfg0.N) (h : t.val % 16 ≠ 0) (d) :
    (gDat (Ix := Ix) (U := U) (Lvl := Lvl) W c).before (10 : Fin 11) t d = accR W c (t.val - 1) (Nat.lt_of_le_of_lt (Nat.sub_le _ _) t.isLt) := by
  have ht : t.val ≠ 0 := fun h0 => h (by rw [h0])
  refine ((gDat (Ix := Ix) (U := U) (Lvl := Lvl) W c).before_out_kept (10 : Fin 11) rfl t ht ?_ (fun _ => rfl) (fun _ _ => rfl) d).trans rfl
  rw [Bool.eq_false_iff]
  intro hf
  have := (flush0_10 ⟨t.val - 1, Nat.lt_of_le_of_lt (Nat.sub_le _ _) t.isLt⟩).mp hf
  simp only at this
  omega

/-- The tile's number within its batch. -/
theorem tile_val : ∀ t : Fin cfg0.N, (grid0.coords t 1).val = t.val % 16 := by decide +kernel

/-- The accumulator's step at a point, from whatever its buffer holds there. -/
theorem accR_step (t : Fin cfg0.N) (d : Vec F S1x1x1 .f32) :
    ratioStep (grid0.coords t 1).val (outS W c t zfill zfill) ((gDat (Ix := Ix) (U := U) (Lvl := Lvl) W c).before (10 : Fin 11) t d) = accR W c t.val t.isLt := by
  by_cases h : t.val % 16 = 0
  · have hz : (grid0.coords t 1).val = 0 := by rw [tile_val]; exact h
    obtain ⟨n, hn⟩ := t
    cases n with
    | zero => unfold accR; rw [hz, ratioStep_first rfl, ratioStep_first rfl]
    | succ k => unfold accR; rw [hz, ratioStep_first rfl, ratioStep_first rfl]
  · rw [before_10_acc W c t h d]
    obtain ⟨n, hn⟩ := t
    cases n with
    | zero => exact absurd rfl h
    | succ k => rfl

/-- The pipeline's body at a point is the kernel there. -/
theorem defs₀_gate (t : Fin cfg0.N) : defs₀ (F := F) .tc cfg0.body (cfg0.bodyArgs t (cfg0.slots t)) = bodyAt0 t := by
  unfold defs₀; rw [Defs.onTc_tc]

end Cert.KernelIdeal.Hand

end
-- ==== Proof.GateForget.lean ====
/-
  The gating call's body at every grid point, against its proof data, with nothing said of its four results: they are
  forgotten, so that what the buffers hold past an array's end need not be named.
-/
module

public import proofs.«01_k».proof.Proof.GateData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Named F]
variable {Ix : Type} [DecidableEq Ix] {U : Type} [URA U] {Lvl : Type} [Preorder Lvl]

local notation "𝕄" => MT nD τ sig Ix (Elt F) ℕ U Lvl

variable (W : Dev nD → Valuation τ sig (Elt F)) (c : Dev nD)

/-- The forgotten windows: the four results. -/
def forgets : Fin 11 → Bool := fun
  | 0 => false | 1 => false | 2 => false | 3 => false | 4 => false | 5 => false | 6 => false | 7 => true | 8 => true | 9 => true | 10 => true

/-- At every point the body runs from the staged inputs to the same inputs, its results at some contents. -/
theorem gate_obligation (ι : Ix) : BodyObligationLoose (gDat (Ix := Ix) (U := U) (Lvl := Lvl) W c) (defs₀ (F := F)) Variants.none ι Set.univ forgets := fun t => by
  rw [bigSep_W0, bigSep_W0]
  simp only [forgets]
  rw [show (gDat (Ix := Ix) (U := U) (Lvl := Lvl) W c).Φ t.succ = (gDat (Ix := Ix) (U := U) (Lvl := Lvl) W c).Φ t.castSucc from rfl, show (gDat (Ix := Ix) (U := U) (Lvl := Lvl) W c).owesAt ι t.succ = (gDat (Ix := Ix) (U := U) (Lvl := Lvl) W c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 W c t d0, before_1 W c t d1, before_2 W c t d2, before_3 W c t d3, before_4 W c t d4, before_5 W c t d5, before_6 W c t d6]
  rw [defs₀_gate]
  iapply (gate_run (F := F) c (grid0.coords t) _ _ _ _ _ _ _ _ _ _ _ _ _ _ _ _ _ _ _ _ _ _
    (tokC W c t d0) (tokL W c t d1) (wA W c t) (wB W c t) (bA W c t) (wO W c t) (bO W c t) d7 d8 d9 d10 _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  have h0 : tokC W c t d0 = win0_0.fill (grid0.coords t) d0 (win0_0.cut (grid0.coords t) (tokC W c t zfill)) :=
    congrArg (win0_0.fill (grid0.coords t) d0) (win0_0.cut_fill _ _ _).symm
  have h1 : tokL W c t d1 = win0_1.fill (grid0.coords t) d1 (win0_1.cut (grid0.coords t) (tokL W c t zfill)) :=
    congrArg (win0_1.fill (grid0.coords t) d1) (win0_1.cut_fill _ _ _).symm
  isplitl [HΦ]; · iexact HΦ
  isplitl [Ho]; · iexact Ho
  isplitl [H0]
  · iexists d0
    iapply (Entails.of_eq (congrArg (owns (c : Thread nD τ) (stage0_0 (cfg0.slots t 0)) fullShare) h0)); iexact H0
  isplitl [H1]
  · iexists d1
    iapply (Entails.of_eq (congrArg (owns (c : Thread nD τ) (stage0_1 (cfg0.slots t 1)) fullShare) h1)); iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

end Cert.KernelIdeal.Hand

end
-- ==== Proof.ScaleBody.lean ====
/-
  The scaling kernel's body, run once on whole staging buffers: each output buffer ends at the product of its two inputs.
-/
module

public import proofs.«01_k».proof.Proof.GateBody
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

variable (c : Dev nD) (i : grid1.Coords)

/-- From the six staging buffers held whole, the scaling kernel runs to its return: the inputs as they were, the outputs at the
    body's payloads of them. -/
theorem scale_run
    (arg2 : Memref sig .tc .vmem S1x32x180x180 .f32) (harg2 : arg2.IsWhole) (arg3 : Memref sig .tc .vmem S1x32x180x180 .f32) (harg3 : arg3.IsWhole)
    (arg4 : Memref sig .tc .vmem S1x180x180 .f32) (harg4 : arg4.IsWhole) (arg5 : Memref sig .tc .vmem S1x180x180 .f32) (harg5 : arg5.IsWhole)
    (arg6 : Memref sig .tc .vmem S1x32x180x180 .f32) (harg6 : arg6.IsWhole) (arg7 : Memref sig .tc .vmem S1x32x180x180 .f32) (harg7 : arg7.IsWhole)
    (x2 x3 : Vec F S1x32x180x180 .f32) (x4 x5 : Vec F S1x180x180 .f32) (d6 d7 : Vec F S1x32x180x180 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare d6 ∗ owns (c : Thread nD τ) arg7 fullShare d7)
        ∗ (iprop(owns (c : Thread nD τ) arg2 fullShare x2 ∗ owns (c : Thread nD τ) arg3 fullShare x3 ∗ owns (c : Thread nD τ) arg4 fullShare x4 ∗ owns (c : Thread nD τ) arg5 fullShare x5
              ∗ owns (c : Thread nD τ) arg6 fullShare (k1_pay1 x2 x4) ∗ owns (c : Thread nD τ) arg7 fullShare (k1_pay2 x3 x5)) -∗ K ⟨⟩))
      ⊢ wp frame (wpE (defs₀ (F := F)) Variants.none c none) Set.univ
          (cc1__scale_kernel i arg2 harg2 arg3 harg3 arg4 harg4 arg5 harg5 arg6 harg6 arg7 harg7) K := by
  simp only [cc1__scale_kernel_eq_skeleton]; unfold cc1__scale_kernel_skel
  unfold owns
  iintro ⟨⟨⟨%f2, %e2, H2⟩, ⟨%f3, %e3, H3⟩, ⟨%f4, %e4, H4⟩, ⟨%f5, %e5, H5⟩, ⟨%f6, %e6, H6⟩, ⟨%f7, %e7, H7⟩⟩, Hk⟩
  have r2 := (readAt_all (S := S1x32x180x180) arg2 f2 z4 inb_S1x32x180x180_S1x32x180x180_0_0_0_0).trans e2
  have r3 := (readAt_all (S := S1x32x180x180) arg3 f3 z4 inb_S1x32x180x180_S1x32x180x180_0_0_0_0).trans e3
  have r4 := (readAt_all (S := S1x180x180) arg4 f4 z3 inb_S1x180x180_S1x180x180_0_0_0).trans e4
  have r5 := (readAt_all (S := S1x180x180) arg5 f5 z3 inb_S1x180x180_S1x180x180_0_0_0).trans e5
  sl_exec
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro
    exact read_writes_all (S := S1x32x180x180) arg6 _ z4 _ _ _
  iexists _; isplitr; swap; · iexact H7
  ipureintro
  exact read_writes_all (S := S1x32x180x180) arg7 _ z4 _ _ _

end Cert.KernelIdeal.Hand

end
-- ==== Proof.ScaleData.lean ====
/-
  The scaling call's proof data over the contents `W` its arrays hold when it starts, and its body at every grid point.
-/
module

public import proofs.«01_k».proof.Proof.ScaleBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Named F]
variable {Ix : Type} [DecidableEq Ix] {U : Type} [URA U] {Lvl : Type} [Preorder Lvl]

local notation "𝕄" => MT nD τ sig Ix (Elt F) ℕ U Lvl

variable (W : Dev nD → Valuation τ sig (Elt F)) (c : Dev nD)

/-- The four input blocks of a point. -/
def imgC (t : Fin cfg1.N) : Vec F S1x32x180x180 .f32 := (win1_0.blk t).view.read (Elt F) (W c main_arg0)
def imgL (t : Fin cfg1.N) : Vec F S1x32x180x180 .f32 := (win1_1.blk t).view.read (Elt F) (W c main_arg1)
def gateC (t : Fin cfg1.N) : Vec F S1x180x180 .f32 := (win1_2.blk t).view.read (Elt F) (W c main_call0_v11)
def gateL (t : Fin cfg1.N) : Vec F S1x180x180 .f32 := (win1_3.blk t).view.read (Elt F) (W c main_call0_v14)

/-- What the core holds beside its windows: the buffers no window stages through, and its generator register. -/
def restΦ1 : sProp 𝕄 := iprop(Pipeline.scopedRest (Val := Elt F) spec1 c ∗ ∃ r, prngReg c r)

/-- The proof data: inputs left in place, each result at the product of its blocks. -/
def sDat : Dat τ (Elt F) Ix ℕ U Lvl cfg1 c where
  A w := W c (Proc.devRef .tc (Pipeline.arrRef spec1 w))
  after w t := match w with
    | ⟨0, _⟩ => imgC W c t
    | ⟨1, _⟩ => imgL W c t
    | ⟨2, _⟩ => gateC W c t
    | ⟨3, _⟩ => gateL W c t
    | ⟨4, _⟩ => k1_pay1 (imgC W c t) (gateC W c t)
    | ⟨5, _⟩ => k1_pay2 (imgL W c t) (gateL W c t)
  Φ _ := restΦ1 c
  q _ := fullShare
  owed _ := 0

/-- What the body finds in each input's staging buffer. -/
theorem before1_0 (t : Fin cfg1.N) (d) : (sDat (Ix := Ix) (U := U) (Lvl := Lvl) W c).before (0 : Fin 6) t d = imgC W c t :=
  ((sDat (Ix := Ix) (U := U) (Lvl := Lvl) W c).before_in_eq_fetched (0 : Fin 6) rfl (fun _ => rfl) (fun _ _ _ => rfl) (fun _ => rfl) t d).trans rfl
theorem before1_1 (t : Fin cfg1.N) (d) : (sDat (Ix := Ix) (U := U) (Lvl := Lvl) W c).before (1 : Fin 6) t d = imgL W c t :=
  ((sDat (Ix := Ix) (U := U) (Lvl := Lvl) W c).before_in_eq_fetched (1 : Fin 6) rfl (fun _ => rfl) (fun _ _ _ => rfl) (fun _ => rfl) t d).trans rfl
theorem before1_2 (t : Fin cfg1.N) (d) : (sDat (Ix := Ix) (U := U) (Lvl := Lvl) W c).before (2 : Fin 6) t d = gateC W c t :=
  ((sDat (Ix := Ix) (U := U) (Lvl := Lvl) W c).before_in_eq_fetched (2 : Fin 6) rfl (fun _ => rfl) (fun _ _ _ => rfl) (fun _ => rfl) t d).trans rfl
theorem before1_3 (t : Fin cfg1.N) (d) : (sDat (Ix := Ix) (U := U) (Lvl := Lvl) W c).before (3 : Fin 6) t d = gateL W c t :=
  ((sDat (Ix := Ix) (U := U) (Lvl := Lvl) W c).before_in_eq_fetched (3 : Fin 6) rfl (fun _ => rfl) (fun _ _ _ => rfl) (fun _ => rfl) t d).trans rfl

/-- The pipeline's body at a point is the kernel there. -/
theorem defs₀_scale (t : Fin cfg1.N) : defs₀ (F := F) .tc cfg1.body (cfg1.bodyArgs t (cfg1.slots t)) = bodyAt1 t := by
  unfold defs₀; rw [Defs.onTc_tc]

/-- At every point the body runs from the staged inputs to the same inputs and the two products. -/
theorem scale_obligation (ι : Ix) : BodyObligationLoose (sDat (Ix := Ix) (U := U) (Lvl := Lvl) W c) (defs₀ (F := F)) Variants.none ι Set.univ := fun t => by
  rw [bigSep_W1, bigSep_W1]
  simp only
  rw [show (sDat (Ix := Ix) (U := U) (Lvl := Lvl) W c).Φ t.succ = (sDat (Ix := Ix) (U := U) (Lvl := Lvl) W c).Φ t.castSucc from rfl, show (sDat (Ix := Ix) (U := U) (Lvl := Lvl) W c).owesAt ι t.succ = (sDat (Ix := Ix) (U := U) (Lvl := Lvl) W c).owesAt ι t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 W c t d0, before1_1 W c t d1, before1_2 W c t d2, before1_3 W c t d3]
  rw [defs₀_scale]
  iapply (scale_run (F := F) c (grid1.coords t) _ _ _ _ _ _ _ _ _ _ _ _
    (imgC W c t) (imgL W c t) (gateC W c t) (gateL W c t) ((sDat (Ix := Ix) (U := U) (Lvl := Lvl) W c).before (4 : Fin 6) t d4) ((sDat (Ix := Ix) (U := U) (Lvl := Lvl) W c).before (5 : Fin 6) t d5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Hand

end
-- ==== Proof.Segs.lean ====
/-
  The program as five segments: the host's preparation, the gating call, the host's layout of the gates, the scaling
  call, the host's reshape of the results. `fg` names the gating call's windows whose exact contents are not tracked;
  what it leaves there is the unknown `o` from which everything later is computed.
-/
module

public import proofs.«01_k».proof.Proof.GateData
public import proofs.«01_k».proof.Proof.ScaleData
public import proofs.«01_k».proof.Proof.Gen.KernelIdeal.Regions
public import Idealize.ShloMosaic.Lib.Pipeline.RegionArraysF
public import Idealize.ShloMosaic.Lib.Pipeline.RegionsForgetR
public import Idealize.ShloMosaic.Lib.Pipeline.RegionsForgetLinks
public import Idealize.ShloMosaic.Lib.Pipeline.RegionsLoop
public import Idealize.ShloMosaic.Lib.HostLoop.Plain
public import Idealize.ShloMosaic.Lib.HostLoop.Lifted

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose CSeg RegionSeg RDat)

variable {F : FTy → Type} [FloatOps F] [Named F]

/-- The ghost algebra: the round counters of each of the two calls. -/
abbrev UU : Type := URounds (GSem nD τ sig) Unit × URounds (GSem nD τ sig) Unit

local notation "𝕄" => MT nD τ sig Unit (Elt F) ℕ UU ℕ

variable (m : (ℓ : Loc nD τ sig) → Buf (Elt F) ℓ) (o : Outs (F := F))

/-- The waits' levels: one level for every semaphore of the TensorCore. -/
def L : GSem nD τ sig → Finset Unit := fun g => if g.1.2 = .tc then {()} else ∅
def lv : GSem nD τ sig → Unit → ℕ := fun _ _ => 0

/-- No segment is a host loop. -/
def loops : Fin 0 → Prog (TpuEff nD τ sig (Elt F) (HostLoop.Sig (Pipeline.Sig Λ₀ (Fin 2) fun p => ((pcfgs (F := F)) p).Adm) 0) .tc) PUnit := fun l => l.elim0

/-- Both calls' proof data over one valuation of the buffers. -/
def pdAt (W : Dev nD → Valuation τ sig (Elt F)) : (p : Fin 2) → (c : Dev nD) → Dat τ (Elt F) Unit ℕ UU ℕ (Pipeline.pin (pcfgs (F := F)) adm p) c
  | ⟨0, _⟩ => fun c => gDat W c
  | ⟨1, _⟩ => fun c => sDat W c

/-- A ticket per call. -/
def tk : Fin 2 → Pipeline.Ticket (Ix := Unit) (Name := ℕ) (U := UU) (Lvl := ℕ) (nD := nD) (τ := τ) (pcfgs (F := F)) adm
  | ⟨0, _⟩ => { p := 0, pdats := pdAt (F := F) (fun _ => fun b => Classical.arbitrary _), EP := embL }
  | ⟨1, _⟩ => { p := 1, pdats := pdAt (F := F) (fun _ => fun b => Classical.arbitrary _), EP := embR }

/-! ## The gating call -/

variable (fg : Fin 11 → Bool)

/-- The untracked windows, call by call. -/
def fgs : (q : Fin 2) → Fin (Pipeline.pin (pcfgs (F := F)) adm q).W → Bool
  | ⟨0, _⟩ => fg
  | ⟨1, _⟩ => fun _ => false

/-- What a result window's array holds afterwards: `x` where it is not tracked, `y` where it is. -/
def pick {α : Type} (b : Bool) (x y : α) : α := if b then x else y
theorem eq_pick {α : Type} {b : Bool} {x y : α} (h : b = false → x = y) : x = pick b x y := by
  unfold pick; cases b
  · simpa using h rfl
  · rfl
theorem pick_false {α : Type} {b : Bool} {x y : α} (h : b = false) : pick b x y = y := by subst h; rfl

section Mk

variable (c : Dev nD) (A : (w : Fin 11) → Buf (Elt F) ((cfg0.win w).arr.view.loc (c.tc : Thread nD τ)))

/-- The buffers after the gating call, its arrays ending at `A`. -/
def mk0 : Valuation τ sig (Elt F) :=
  Function.update (Function.update (Function.update (Function.update (V1 m c)
    main_v0_3 (pick (fg 7) (A 7) ((gDat (Ix := Unit) (U := UU) (Lvl := ℕ) (V1 m) c).arrAt 7 cfg0.N)))
    main_v0_4 (pick (fg 8) (A 8) ((gDat (Ix := Unit) (U := UU) (Lvl := ℕ) (V1 m) c).arrAt 8 cfg0.N)))
    main_call0_v8_2 (pick (fg 9) (A 9) ((gDat (Ix := Unit) (U := UU) (Lvl := ℕ) (V1 m) c).arrAt 9 cfg0.N)))
    main_call0_v8_3 (pick (fg 10) (A 10) ((gDat (Ix := Unit) (U := UU) (Lvl := ℕ) (V1 m) c).arrAt 10 cfg0.N))

theorem mk0_7 : mk0 m fg c A main_v0_3 = pick (fg 7) (A 7) ((gDat (Ix := Unit) (U := UU) (Lvl := ℕ) (V1 m) c).arrAt 7 cfg0.N) := by
  unfold mk0
  rw [Function.update_of_ne (by decide), Function.update_of_ne (by decide), Function.update_of_ne (by decide), Function.update_self]
theorem mk0_8 : mk0 m fg c A main_v0_4 = pick (fg 8) (A 8) ((gDat (Ix := Unit) (U := UU) (Lvl := ℕ) (V1 m) c).arrAt 8 cfg0.N) := by
  unfold mk0
  rw [Function.update_of_ne (by decide), Function.update_of_ne (by decide), Function.update_self]
theorem mk0_9 : mk0 m fg c A main_call0_v8_2 = pick (fg 9) (A 9) ((gDat (Ix := Unit) (U := UU) (Lvl := ℕ) (V1 m) c).arrAt 9 cfg0.N) := by
  unfold mk0
  rw [Function.update_of_ne (by decide), Function.update_self]
theorem mk0_10 : mk0 m fg c A main_call0_v8_3 = pick (fg 10) (A 10) ((gDat (Ix := Unit) (U := UU) (Lvl := ℕ) (V1 m) c).arrAt 10 cfg0.N) := by
  unfold mk0
  rw [Function.update_self]
/-- Off the four results nothing changes. -/
theorem mk0_off (b : DevRef τ sig) (h3 : b ≠ main_v0_3) (h4 : b ≠ main_v0_4) (h2 : b ≠ main_call0_v8_2) (hr : b ≠ main_call0_v8_3) :
    mk0 m fg c A b = V1 m c b := by
  unfold mk0
  rw [Function.update_of_ne hr, Function.update_of_ne h2, Function.update_of_ne h4, Function.update_of_ne h3]

end Mk

/-- The unknowns read off a valuation. -/
def outsOf (V : Valuation τ sig (Elt F)) : Outs (F := F) := fun _ r _ => V r

/-- The buffers after the gating call are the generated valuation at the unknowns read off them. -/
theorem V2_outsOf (c : Dev nD) (A) : V2 m (outsOf (mk0 m fg c A)) c = mk0 m fg c A := by
  show Function.update (Function.update (Function.update (Function.update (V1 m c) main_v0_3 (mk0 m fg c A main_v0_3)) main_v0_4 (mk0 m fg c A main_v0_4))
    main_call0_v8_2 (mk0 m fg c A main_call0_v8_2)) main_call0_v8_3 (mk0 m fg c A main_call0_v8_3) = _
  rw [mk0_7, mk0_8, mk0_9, mk0_10]; rfl

/-- What is known of the unknowns: a tracked window's array ends at its proof data's contents. -/
def Sel (o : Outs (F := F)) (c : Dev nD) : Prop :=
  (fg 7 = false → o 2 main_v0_3 c = (gDat (Ix := Unit) (U := UU) (Lvl := ℕ) (V1 m) c).arrAt 7 cfg0.N)
  ∧ (fg 8 = false → o 2 main_v0_4 c = (gDat (Ix := Unit) (U := UU) (Lvl := ℕ) (V1 m) c).arrAt 8 cfg0.N)
  ∧ (fg 9 = false → o 2 main_call0_v8_2 c = (gDat (Ix := Unit) (U := UU) (Lvl := ℕ) (V1 m) c).arrAt 9 cfg0.N)
  ∧ (fg 10 = false → o 2 main_call0_v8_3 c = (gDat (Ix := Unit) (U := UU) (Lvl := ℕ) (V1 m) c).arrAt 10 cfg0.N)

theorem Sel_outsOf (c : Dev nD) (A) : Sel m fg (outsOf (mk0 m fg c A)) c :=
  ⟨fun h => (mk0_7 m fg c A).trans (pick_false h), fun h => (mk0_8 m fg c A).trans (pick_false h),
    fun h => (mk0_9 m fg c A).trans (pick_false h), fun h => (mk0_10 m fg c A).trans (pick_false h)⟩

/-- What rides along: the generator register, and nothing owed. -/
def Er (c : Dev nD) : sProp 𝕄 := iprop((∃ r, prngReg c r) ∗ ∃ Wd, owes (c : Thread nD τ) (0 : CellTallies nD τ sig Unit) Wd)

theorem hcut (p : Fin 2) : Pipeline.LevelCut (pcfgs (F := F)) adm () L lv p (fun _ => 0) (fun _ => 0) where
  hι c w s := by unfold L; exact Finset.mem_singleton_self _
  hιb c w s := le_rfl
  hD c g i h := absurd h (Nat.lt_irrefl 0)

end Cert.KernelIdeal.Hand

end
-- ==== Proof.Records.lean ====
/-
  The two calls' records: what each is entered with and left with.
-/
module

public import proofs.«01_k».proof.Proof.Segs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose CSeg RegionSeg RDat)

variable {F : FTy → Type} [FloatOps F] [Named F]

local notation "𝕄" => MT nD τ sig Unit (Elt F) ℕ UU ℕ

variable (m : (ℓ : Loc nD τ sig) → Buf (Elt F) ℓ) (fg : Fin 11 → Bool)

/-- The buffers beside the gating call's arrays. -/
abbrev rest0 : Finset (DevRef τ sig) := Pipeline.ucRefs τ sig \ Pipeline.arrRefs (τ := τ) spec0
/-- The buffers beside the scaling call's arrays. -/
abbrev rest1 : Finset (DevRef τ sig) := Pipeline.ucRefs τ sig \ Pipeline.arrRefs (τ := τ) spec1

/-- An array of the gating call other than its results is held throughout. -/
theorem gate_in (c : Dev nD) (A : (w : Fin 11) → Buf (Elt F) ((cfg0.win w).arr.view.loc (c.tc : Thread nD τ))) (w : Fin 11) (hw : (cfg0.win w).isOut = false)
    (hf : A w = (gDat (Ix := Unit) (U := UU) (Lvl := ℕ) (V1 m) c).arrAt w cfg0.N) :
    A w = V1 m c (Proc.devRef .tc (Pipeline.arrRef spec0 w)) := hf.trans ((gDat (Ix := Unit) (U := UU) (Lvl := ℕ) (V1 m) c).arrAt_in w hw cfg0.N)

set_option maxHeartbeats 1000000 in
/-- The arrays' ends are those of the valuation `mk0`. -/
theorem hmkA (hfg : ∀ w : Fin 11, w.val < 7 → fg w = false) (c : Dev nD)
    (A : (w : Fin 11) → Buf (Elt F) ((cfg0.win w).arr.view.loc (c.tc : Thread nD τ)))
    (h : ∀ w, fg w = false → A w = (gDat (Ix := Unit) (U := UU) (Lvl := ℕ) (V1 m) c).arrAt w cfg0.N) :
    ∀ w, A w = mk0 m fg c A (Proc.devRef .tc (Pipeline.arrRef spec0 w)) := fun w => by
  match w with
  | ⟨0, _⟩ => exact (gate_in m c A 0 rfl (h 0 (hfg 0 (by decide)))).trans (mk0_off m fg c A main_call0_v1 (by decide) (by decide) (by decide) (by decide)).symm
  | ⟨1, _⟩ => exact (gate_in m c A 1 rfl (h 1 (hfg 1 (by decide)))).trans (mk0_off m fg c A main_call0_v3 (by decide) (by decide) (by decide) (by decide)).symm
  | ⟨2, _⟩ => exact (gate_in m c A 2 rfl (h 2 (hfg 2 (by decide)))).trans (mk0_off m fg c A main_call0_v4 (by decide) (by decide) (by decide) (by decide)).symm
  | ⟨3, _⟩ => exact (gate_in m c A 3 rfl (h 3 (hfg 3 (by decide)))).trans (mk0_off m fg c A main_call0_v5 (by decide) (by decide) (by decide) (by decide)).symm
  | ⟨4, _⟩ => exact (gate_in m c A 4 rfl (h 4 (hfg 4 (by decide)))).trans (mk0_off m fg c A main_call0_v6 (by decide) (by decide) (by decide) (by decide)).symm
  | ⟨5, _⟩ => exact (gate_in m c A 5 rfl (h 5 (hfg 5 (by decide)))).trans (mk0_off m fg c A main_arg4 (by decide) (by decide) (by decide) (by decide)).symm
  | ⟨6, _⟩ => exact (gate_in m c A 6 rfl (h 6 (hfg 6 (by decide)))).trans (mk0_off m fg c A main_call0_v7 (by decide) (by decide) (by decide) (by decide)).symm
  | ⟨7, _⟩ => exact (eq_pick (h 7)).trans (mk0_7 m fg c A).symm
  | ⟨8, _⟩ => exact (eq_pick (h 8)).trans (mk0_8 m fg c A).symm
  | ⟨9, _⟩ => exact (eq_pick (h 9)).trans (mk0_9 m fg c A).symm
  | ⟨10, _⟩ => exact (eq_pick (h 10)).trans (mk0_10 m fg c A).symm

/-- A buffer that is not among the gating call's arrays is none of its results. -/
theorem mk0_rest (c : Dev nD) (A) (b : DevRef τ sig) (hb : b ∈ rest0) : mk0 m fg c A b = V1 m c b := by
  have hn := (Finset.mem_sdiff.mp hb).2
  have hin : ∀ w : Fin 11, b ≠ Proc.devRef .tc (Pipeline.arrRef spec0 w) := fun w h => hn (by
    rw [h]; exact Finset.mem_map.mpr ⟨_, Finset.mem_image.mpr ⟨w, Finset.mem_univ _, rfl⟩, rfl⟩)
  exact mk0_off m fg c A b (hin 7) (hin 8) (hin 9) (hin 10)

theorem ownSems0_none (c : Dev nD) : (Pipeline.ownSems0 (fun k : PEmpty => k.elim) c : sProp 𝕄) = BI.emp := by
  unfold Pipeline.ownSems0; rw [Finset.univ_eq_empty, BI.bigSep_empty]

set_option backward.isDefEq.respectTransparency.types false in
/-- The gating call's record: entered at the host's preparation, left at `mk0`. -/
def R0 (hfg : ∀ w : Fin 11, w.val < 7 → fg w = false)
    (hG : ∀ c, BodyObligationLoose (gDat (Ix := Unit) (U := UU) (Lvl := ℕ) (V1 m) c) (defs₀ (F := F)) Variants.none () Set.univ fg) :
    RDat.RegionSeg (pcfgs (F := F)) adm (Pipeline.toRsF (pcfgs (F := F)) adm (pdAt (V1 m)) (fgs (F := F) fg)) () (defs₀ (F := F)) Variants.none L lv 0 :=
  RDat.RegionSeg.ofHeldF (pcfgs (F := F)) adm (pdAt (V1 m)) () (defs₀ (F := F)) Variants.none L lv 0 (fun _ => 0) (fgs (F := F) fg)
    (K := PEmpty) () (fun k => k.elim) (Pipeline.OwnSemFacts.none _) ∅ ∅ rest0 (by unfold Pipeline.hbmRefs; simp) (by unfold Pipeline.hbmRefs; simp)
    launch0.toP rfl hG (fun _ _ => rfl) (fun _ => rfl) (fun c => (gDat (Ix := Unit) (U := UU) (Lvl := ℕ) (V1 m) c).share_full fun _ => rfl)
    (fun c => by iintro -; iapply (Transfers.MayWaits.zero (c : Thread nD τ) ()); iempintro)
    (V1 m) (fun c A _ => mk0 m fg c A) (fun c A _ h => hmkA m fg hfg c A h)
    (fun c A g b hb => absurd hb (Finset.notMem_empty b))
    (fun c A g d hd => mk0_rest m fg c A d (Finset.mem_sdiff.mp (Finset.mem_sdiff.mp hd).1).1)
    (fun c A g d hd => by unfold Pipeline.hbmRefs at hd; simp at hd)
    (fun c => by
      show _ ⊢ restΦ c
      unfold restΦ
      iintro ⟨Hs, Hp, -⟩
      isplitl [Hs]; · iexact Hs
      iexact Hp)
    (fun c => by
      show restΦ c ⊢ _
      unfold restΦ
      rw [ownSems0_none, BI.bigSep_empty, BI.bigSep_empty]
      iintro ⟨Hs, Hp⟩
      isplitl [Hs]; · iexact Hs
      isplitl [Hp]; · iexact Hp
      isplitr; · iempintro
      isplitr <;> iempintro)
    (fun _ => 0) (hcut 0) (fun _ => BI.emp)
    (fun c w => rfl)

/-! ## The scaling call -/

variable (o : Outs (F := F))

/-- The buffers after the scaling call, its results at their proof data's contents. -/
def fullV (c : Dev nD) : Valuation τ sig (Elt F) := Function.update (Function.update (V3 m o c)
  main_v0_0 ((sDat (Ix := Unit) (U := UU) (Lvl := ℕ) (V3 m o) c).arrAt 4 cfg1.N))
  main_v0_1 ((sDat (Ix := Unit) (U := UU) (Lvl := ℕ) (V3 m o) c).arrAt 5 cfg1.N)

/-- The unknowns with the scaling call's results computed from those of the gating call. -/
def full : Outs (F := F) := fun J => if J = 2 then o 2 else fun r c => fullV m o c r

theorem full_two : full m o 2 = o 2 := if_pos rfl
theorem full_four : full m o 4 = fun (r : Ref sig .tc) c => fullV m o c r := if_neg (show ¬ (4 : ℕ) = 2 by decide)
theorem V3_full (c : Dev nD) : V3 m (full m o) c = V3 m o c := by unfold V3 V2; rw [full_two]
theorem fullV_0 (c : Dev nD) : fullV m o c main_v0_0 = (sDat (Ix := Unit) (U := UU) (Lvl := ℕ) (V3 m o) c).arrAt 4 cfg1.N := by
  unfold fullV
  rw [Function.update_of_ne (by decide), Function.update_self]
theorem fullV_1 (c : Dev nD) : fullV m o c main_v0_1 = (sDat (Ix := Unit) (U := UU) (Lvl := ℕ) (V3 m o) c).arrAt 5 cfg1.N := by
  unfold fullV
  rw [Function.update_self]
theorem V4_full_0 (c : Dev nD) : V4 m (full m o) c main_v0_0 = (sDat (Ix := Unit) (U := UU) (Lvl := ℕ) (V3 m o) c).arrAt 4 cfg1.N := by
  unfold V4
  rw [Function.update_of_ne (by decide), Function.update_self, full_four]; exact fullV_0 m o c
theorem V4_full_1 (c : Dev nD) : V4 m (full m o) c main_v0_1 = (sDat (Ix := Unit) (U := UU) (Lvl := ℕ) (V3 m o) c).arrAt 5 cfg1.N := by
  unfold V4
  rw [Function.update_self, full_four]; exact fullV_1 m o c
theorem V4_off (b : DevRef τ sig) (c : Dev nD) (h0 : b ≠ main_v0_0) (h1 : b ≠ main_v0_1) : V4 m (full m o) c b = V3 m o c b := by
  unfold V4
  rw [Function.update_of_ne h1, Function.update_of_ne h0, V3_full]

theorem V4_arr (c : Dev nD) (w : Fin 6) : (sDat (Ix := Unit) (U := UU) (Lvl := ℕ) (V3 m o) c).arrAt w cfg1.N = V4 m (full m o) c (Proc.devRef .tc (Pipeline.arrRef spec1 w)) := by
  match w with
  | ⟨0, _⟩ => exact ((sDat (Ix := Unit) (U := UU) (Lvl := ℕ) (V3 m o) c).arrAt_in (0 : Fin 6) rfl cfg1.N).trans (V4_off m o main_arg0 c (by decide) (by decide)).symm
  | ⟨1, _⟩ => exact ((sDat (Ix := Unit) (U := UU) (Lvl := ℕ) (V3 m o) c).arrAt_in (1 : Fin 6) rfl cfg1.N).trans (V4_off m o main_arg1 c (by decide) (by decide)).symm
  | ⟨2, _⟩ => exact ((sDat (Ix := Unit) (U := UU) (Lvl := ℕ) (V3 m o) c).arrAt_in (2 : Fin 6) rfl cfg1.N).trans (V4_off m o main_call0_v11 c (by decide) (by decide)).symm
  | ⟨3, _⟩ => exact ((sDat (Ix := Unit) (U := UU) (Lvl := ℕ) (V3 m o) c).arrAt_in (3 : Fin 6) rfl cfg1.N).trans (V4_off m o main_call0_v14 c (by decide) (by decide)).symm
  | ⟨4, _⟩ => exact (V4_full_0 m o c).symm
  | ⟨5, _⟩ => exact (V4_full_1 m o c).symm

/-- A buffer that is not among the scaling call's arrays is none of its results. -/
theorem V4_rest (c : Dev nD) (b : DevRef τ sig) (hb : b ∈ rest1) : V4 m (full m o) c b = V3 m o c b := by
  have hn := (Finset.mem_sdiff.mp hb).2
  have hin : ∀ w : Fin 6, b ≠ Proc.devRef .tc (Pipeline.arrRef spec1 w) := fun w h => hn (by
    rw [h]; exact Finset.mem_map.mpr ⟨_, Finset.mem_image.mpr ⟨w, Finset.mem_univ _, rfl⟩, rfl⟩)
  exact V4_off m o b c (hin 4) (hin 5)

set_option backward.isDefEq.respectTransparency.types false in
/-- The scaling call's record at the unknowns `o`. -/
def R1 : RegionSeg (pcfgs (F := F)) adm (pdAt (V3 m o)) () (defs₀ (F := F)) Variants.none L lv 1 :=
  RegionSeg.ofHeld (pcfgs (F := F)) adm (pdAt (V3 m o)) () (defs₀ (F := F)) Variants.none L lv 1 (fun _ => 0)
    (fun c => iprop(∃ r, prngReg c r)) (fun c => iprop(∃ r, prngReg c r)) launch1.toP rfl
    (fun c => scale_obligation (V3 m o) c ()) (fun _ _ => rfl) (fun _ => rfl) (fun c => (sDat (Ix := Unit) (U := UU) (Lvl := ℕ) (V3 m o) c).share_full fun _ => rfl)
    (fun c => .rfl) (fun c => .rfl) (fun _ => 0) (hcut 1) (fun c => StableHlo.held (c.tc : Thread nD τ) rest1 (V3 m o c))
    (V3 m o) (V4 m (full m o)) (fun c w => rfl) (fun c w => V4_arr m o c w)

end Cert.KernelIdeal.Hand

end
-- ==== Proof.Run.lean ====
/-
  The whole program's run: from any memory it ends with every buffer at a named valuation over what the gating call left.
-/
module

public import proofs.«01_k».proof.Proof.Records

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose CSeg RegionSeg RDat)

variable {F : FTy → Type} [FloatOps F] [Named F]

local notation "𝕄" => MT nD τ sig Unit (Elt F) ℕ UU ℕ

variable (m : (ℓ : Loc nD τ sig) → Buf (Elt F) ℓ) (fg : Fin 11 → Bool)

variable (hfg : ∀ w : Fin 11, w.val < 7 → fg w = false)
variable (hG : ∀ c, BodyObligationLoose (gDat (Ix := Unit) (U := UU) (Lvl := ℕ) (V1 m) c) (defs₀ (F := F)) Variants.none () Set.univ fg)

abbrev Item : Type 1 := CSeg (pcfgs (F := F)) adm (defs₀ (F := F)) Variants.none L lv (loops (F := F)) (tk (F := F))

/-- A host stretch over the unscoped buffers, from the valuation `V`. -/
def host (ops : List (HloOp τ sig (Elt F))) (hs : ops.Forall fun op => op.bufs ⊆ StableHlo.tcRefs τ sig) (hf : ops.Forall fun op => op.fresh = ∅)
    (V : Dev nD → Valuation τ sig (Elt F)) : Item (F := F) :=
  CSeg.ofOps _ _ _ _ _ _ _ _ (Pipeline.ucRefs τ sig) ops
    (fun op h => Pipeline.sub_ucRefs op ((List.forall_iff_forall_mem.mp hs) op h))
    (fun op h => (List.forall_iff_forall_mem.mp hf) op h) V Er

set_option backward.isDefEq.respectTransparency.types false in
/-- The program, item by item. -/
def items : List (Item (F := F)) :=
  [host hostOps0 hostOps0_sub hostOps0_fresh (V0 m),
   CSeg.regionAtR (pcfgs (F := F)) adm () cellOf_inj (defs₀ (F := F)) Variants.none L lv loops tk 0
     (Pipeline.toRsF (pcfgs (F := F)) adm (pdAt (V1 m)) (fgs (F := F) fg)) (R0 m fg hfg hG),
   CSeg.exSel (Sel m fg) (fun o => host hostOps1 hostOps1_sub hostOps1_fresh (V2 m o)) (StableHlo.seq hostOps1) (fun _ => rfl) 0 (fun _ => le_rfl) ∅ (fun _ => rfl),
   CSeg.regionF (pcfgs (F := F)) adm () cellOf_inj (defs₀ (F := F)) Variants.none L lv loops tk 1 (fun o => pdAt (V3 m o)) (fun o => R1 m o) (Sel m fg),
   CSeg.exSel (Sel m fg) (fun o => host hostOps2 hostOps2_sub hostOps2_fresh (V4 m (full m o))) (StableHlo.seq hostOps2) (fun _ => rfl) 0 (fun _ => le_rfl) ∅ (fun _ => rfl)]

/-! ## The links -/

theorem gate_sub : Pipeline.arrRefs (τ := τ) spec0 ⊆ Pipeline.ucRefs τ sig := Pipeline.arrRefs_sub_ucRefs spec0 (by decide)
theorem scale_sub : Pipeline.arrRefs (τ := τ) spec1 ⊆ Pipeline.ucRefs τ sig := Pipeline.arrRefs_sub_ucRefs spec1 (by decide)

/-- Into the gating call: its arrays out of the buffers held. -/
theorem link_gate_in (c : Dev nD) :
    iprop(StableHlo.held (c : Thread nD τ) (Pipeline.ucRefs τ sig) (V1 m c) ∗ Er c) ⊢ ((R0 m fg hfg hG).pre c : sProp 𝕄) := by
  show _ ⊢ iprop(StableHlo.held (c.tc : Thread nD τ) (Pipeline.arrRefs spec0) (V1 m c) ∗ (∃ r, prngReg c r)
    ∗ (StableHlo.held (c.tc : Thread nD τ) rest0 (V1 m c) ∗ BI.emp) ∗ ∃ Wd, owes (c : Thread nD τ) (0 : CellTallies nD τ sig Unit) Wd)
  rw [StableHlo.held_sub_split (c.tc : Thread nD τ) gate_sub (V1 m c)]
  unfold Er
  iintro ⟨⟨Ha, Hr⟩, Hp, HO⟩
  isplitl [Ha]; · iexact Ha
  isplitl [Hp]; · iexact Hp
  isplitl [Hr]
  · isplitl [Hr]; · iexact Hr
    iempintro
  iexact HO

/-- Out of the gating call: every buffer again, at some unknowns of which the tracked windows are known. -/
theorem link_gate_out (c : Dev nD) : ((R0 m fg hfg hG).post c : sProp 𝕄) ⊢ iprop(∃ o, ⌜Sel m fg o c⌝
    ∗ (StableHlo.held (c : Thread nD τ) (Pipeline.ucRefs τ sig) (V2 m o c) ∗ Er c)) := by
  show iprop(∃ (A : (w : Fin 11) → Buf (Elt F) ((cfg0.win w).arr.view.loc (c.tc : Thread nD τ))) (g : (b : Ref sig .tc) → Buf (Elt F) ((c.tc : Thread nD τ).loc b)),
    StableHlo.held (c.tc : Thread nD τ) (Pipeline.arrRefs spec0) (mk0 m fg c A) ∗ (∃ r, prngReg c r)
    ∗ (StableHlo.held (c.tc : Thread nD τ) rest0 (mk0 m fg c A) ∗ BI.emp) ∗ ∃ Wd, owes (c : Thread nD τ) (0 : CellTallies nD τ sig Unit) Wd) ⊢ _
  iintro ⟨%A, %g, Ha, Hp, ⟨Hr, -⟩, HO⟩
  iexists (outsOf (mk0 m fg c A))
  isplitr; · ipureintro; exact Sel_outsOf m fg c A
  rw [V2_outsOf, StableHlo.held_sub_split (c.tc : Thread nD τ) gate_sub (mk0 m fg c A)]
  unfold Er
  isplitl [Ha Hr]
  · isplitl [Ha]; · iexact Ha
    iexact Hr
  isplitl [Hp]; · iexact Hp
  iexact HO

/-- Into the scaling call. -/
theorem link_scale_in (o : Outs (F := F)) (c : Dev nD) :
    iprop(StableHlo.held (c : Thread nD τ) (Pipeline.ucRefs τ sig) (V3 m o c) ∗ Er c) ⊢ ((R1 m o).pre c : sProp 𝕄) := by
  show _ ⊢ iprop(StableHlo.held (c.tc : Thread nD τ) (Pipeline.arrRefs spec1) (V3 m o c) ∗ (∃ r, prngReg c r)
    ∗ StableHlo.held (c.tc : Thread nD τ) rest1 (V3 m o c) ∗ ∃ Wd, owes (c : Thread nD τ) (0 : CellTallies nD τ sig Unit) Wd)
  rw [StableHlo.held_sub_split (c.tc : Thread nD τ) scale_sub (V3 m o c)]
  unfold Er
  iintro ⟨⟨Ha, Hr⟩, Hp, HO⟩
  isplitl [Ha]; · iexact Ha
  isplitl [Hp]; · iexact Hp
  isplitl [Hr]; · iexact Hr
  iexact HO

/-- Out of the scaling call. -/
theorem link_scale_out (o : Outs (F := F)) (c : Dev nD) :
    ((R1 m o).post c : sProp 𝕄) ⊢ iprop(StableHlo.held (c : Thread nD τ) (Pipeline.ucRefs τ sig) (V4 m (full m o) c) ∗ Er c) := by
  show iprop(StableHlo.held (c.tc : Thread nD τ) (Pipeline.arrRefs spec1) (V4 m (full m o) c) ∗ (∃ r, prngReg c r)
    ∗ StableHlo.held (c.tc : Thread nD τ) rest1 (V3 m o c) ∗ ∃ Wd, owes (c : Thread nD τ) (0 : CellTallies nD τ sig Unit) Wd) ⊢ _
  rw [StableHlo.held_sub_split (c.tc : Thread nD τ) scale_sub (V4 m (full m o) c),
    StableHlo.held_congr (c.tc : Thread nD τ) (S := rest1) (V := V4 m (full m o) c) (V' := V3 m o c) fun b hb => V4_rest m o c b hb]
  unfold Er
  iintro ⟨Ha, Hp, Hr, HO⟩
  isplitl [Ha Hr]
  · isplitl [Ha]; · iexact Ha
    iexact Hr
  isplitl [Hp]; · iexact Hp
  iexact HO

/-- What a thread ends with: every buffer at the last valuation, at unknowns of which the tracked windows are known. -/
def Tn (c : Dev nD) : sProp 𝕄 := iprop(∃ o, ⌜Sel m fg o c⌝ ∗ StableHlo.held (c : Thread nD τ) (Pipeline.ucRefs τ sig) (V5 m (full m o) c))

theorem link_end (c : Dev nD) :
    iprop(∃ o, ⌜Sel m fg o c⌝ ∗ (StableHlo.held (c : Thread nD τ) (Pipeline.ucRefs τ sig) (V5 m (full m o) c) ∗ Er c))
      ⊢ (iprop(Tn m fg c ∗ ∃ W, owes (c.tc : Thread nD τ) (0 : CellTallies nD τ sig Unit) W) : sProp 𝕄) := by
  unfold Tn Er
  iintro ⟨%o, %ho, Hh, -, HO⟩
  isplitl [Hh]
  · iexists o
    isplitr; · ipureintro; exact ho
    iexact Hh
  iexact HO

/-- The items chain. -/
theorem chains : Pipeline.CSeg.Chains (fun c => iprop(StableHlo.held (c : Thread nD τ) (Pipeline.ucRefs τ sig) (V0 m c) ∗ Er c)) (items m fg hfg hG)
    (fun c => iprop(Tn m fg c ∗ ∃ W, owes (c.tc : Thread nD τ) (0 : CellTallies nD τ sig Unit) W)) :=
  ⟨fun _ => .rfl, fun c => link_gate_in m fg hfg hG c, fun c => link_gate_out m fg hfg hG c,
    fun c => Pipeline.exSel_map id (fun _ h => h) fun o _ => link_scale_in m o c,
    fun c => Pipeline.exSel_map id (fun _ h => h) fun o _ => link_scale_out m o c, fun c => link_end m fg c⟩

theorem items_disjoint : (items m fg hfg hG).Pairwise fun s s' => Disjoint s.T s'.T := by
  have h : ((items m fg hfg hG).map CSeg.T).Pairwise Disjoint := by
    show ([∅, {0}, ∅, {1}, ∅] : List (Finset (Fin 2))).Pairwise Disjoint
    decide
  exact List.pairwise_map.mp h

/-! ## The run -/

/-- The program, read with host loops allowed, is the run of the items. -/
theorem main_items (c : Dev nD) : HostLoop.liftProg (L := 0) (main (F := F) c) = Pipeline.CSeg.runL (items m fg hfg hG) := by
  rw [main_chain c, HostLoop.liftProg_chain]
  simp only [List.map_cons, List.map_nil, HostLoop.liftProg_seq]
  rfl

/-- The ghost state at the launch: both calls' round counters. -/
def u0 : UU :=
  (Rounds.initOf (Pipeline.cells (Pipeline.pin (pcfgs (F := F)) adm) cellOf_inj) (Pipeline.launchToks (Pipeline.pin (pcfgs (F := F)) adm) cellOf_inj),
   Rounds.initOf (Pipeline.cells (Pipeline.pin (pcfgs (F := F)) adm) cellOf_inj) (Pipeline.launchToks (Pipeline.pin (pcfgs (F := F)) adm) cellOf_inj))

theorem hu0 : (ownU (u0 (F := F)) : sProp 𝕄) ⊢ |={Set.univ}=> iprop((bigSep Finset.univ fun j : Fin 2 =>
    BI.own ((tk (F := F) j).EP (Rounds.initOf (Pipeline.cells (Pipeline.pin (pcfgs (F := F)) adm) cellOf_inj) (Pipeline.launchToks (Pipeline.pin (pcfgs (F := F)) adm) cellOf_inj))))
      ∗ bigSep Finset.univ fun _ : Dev nD => (BI.emp : sProp 𝕄)) := by
  rw [show (Finset.univ : Finset (Fin 2)) = insert 0 {1} from rfl, BI.bigSep_insert (by decide), BI.bigSep_singleton]
  rw [show (Finset.univ : Finset (Dev nD)) = {0} from rfl, BI.bigSep_singleton]
  show (ownU (u0 (F := F)) : sProp 𝕄) ⊢ |={Set.univ}=> iprop((BI.own (embL (u0 (F := F)).1) ∗ BI.own (embR (u0 (F := F)).2)) ∗ BI.emp)
  iintro Hu
  ihave H := (ownU_pair _ _) $$ Hu
  icases H with ⟨Ha, Hb⟩
  imodintro
  isplitl [Ha Hb]
  · isplitl [Ha]; · iexact Ha
    iexact Hb
  iempintro

/-- The launch's first thread state. -/
theorem hinit0 (ρ : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)) ∗ levAts L lv)
      ⊢ (|={Set.univ}=> bigSep Finset.univ fun c : Dev nD => iprop(StableHlo.held (c : Thread nD τ) (Pipeline.ucRefs τ sig) (V0 m c) ∗ Er c) : sProp 𝕄) := by
  have h : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
      ⊢ (bigSep Finset.univ fun c : Dev nD => iprop(StableHlo.held (c : Thread nD τ) (Pipeline.ucRefs τ sig) (V0 m c) ∗ Er c) : sProp 𝕄) :=
    bigSep_mono fun c _ => by
      rw [← Pipeline.unscopedBufs_held (Ix := Unit) (Name := ℕ) (U := UU) (Lvl := ℕ) c (V0 m c)]
      unfold Er
      show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(unscopedBufs c (fun b => m ((c.tc : Thread nD τ).loc b)) ∗ (∃ r, prngReg c r) ∗ ∃ Wd, owes (c : Thread nD τ) (0 : CellTallies nD τ sig Unit) Wd)
      iintro ⟨Hb, -, HO, -, Hp, -⟩
      isplitl [Hb]; · iexact Hb
      isplitl [Hp]; · iexists _; iexact Hp
      iexists _; iexact HO
  iintro ⟨H, -⟩
  imodintro
  iapply h; iexact H

include hfg hG in
set_option backward.isDefEq.respectTransparency.types false in
/-- THE RUN: from any memory, with the semaphores at zero, every execution ends, with every buffer of each core at the
    last valuation over some unknowns `o` of which the tracked windows are known, and every semaphore at zero. -/
theorem run_main (ρ : Dev nD → PrngReg) : θ_run defs (onTc (τ := τ) (main (F := F))) ⟨m, fun _ => 0, ρ⟩
    (fun r => (∀ c : Dev nD, ∃ o, Sel m fg o c ∧ ∀ b ∈ Pipeline.ucRefs τ sig, r.2.mem ((c : Thread nD τ).1, b) = V5 m (full m o) c b)
      ∧ r.2.sem = fun _ => 0) :=
  HostLoop.θ_run_of_lift (L := 0) loops (defs (F := F)) main _ _
    (Pipeline.θ_run_regions_loop_kit_sems (pcfgs (F := F)) adm cellOf_inj (defs₀ (F := F)) Variants.none L lv loops tk m ρ
      (fun d => HostLoop.liftProg (L := 0) (main d)) (items m fg hfg hG)
      (fun c Q => by rw [main_items m fg hfg hG c]) (items_disjoint m fg hfg hG)
      (O₀ := fun _ => 0) (hL := fun g hg => if_neg hg) (G := fun _ => BI.emp) (u₀ := u0 (F := F)) (hu₀ := hu0)
      (T₀ := fun c => iprop(StableHlo.held (c : Thread nD τ) (Pipeline.ucRefs τ sig) (V0 m c) ∗ Er c)) (Tₙ := Tn m fg)
      (hch := chains m fg hfg hG) (hinit := hinit0 m ρ)
      (QY := fun c s => ∃ o, Sel m fg o c ∧ ∀ b ∈ Pipeline.ucRefs τ sig, s.mem ((c : Thread nD τ).1, b) = V5 m (full m o) c b)
      (hfin := fun c s' => by
        unfold Tn StableHlo.held
        iintro ⟨⟨%o, %ho, Hh⟩, HSI⟩
        ihave Hp := (pointsTo_read_all (Pipeline.ucRefs τ sig) (fun b => ((c : Thread nD τ).1, b)) (V5 m (full m o) c) s') $$ [Hh HSI]
        · isplitl [Hh] <;> iassumption
        icases Hp with ⟨%hb, HSI⟩
        imodintro
        isplitr; · ipureintro; exact ⟨o, ho, hb⟩
        iexact HSI)
      (hQ := fun s h hz => ⟨h, funext fun g => hz g (.inr (regions_no_unscoped g.2))⟩))

include hfg hG in
/-- THE FRAME: every argument ends as launched, every semaphore at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    obtain ⟨o, -, hb⟩ := h.1 c
    exact ⟨(hb (Proc.devRef .tc main_arg0) (Finset.mem_filter.mpr ⟨StableHlo.devRef_mem_tcRefs main_arg0, by decide⟩)).trans (V5_main_arg0 m _ c),
      (hb (Proc.devRef .tc main_arg1) (Finset.mem_filter.mpr ⟨StableHlo.devRef_mem_tcRefs main_arg1, by decide⟩)).trans (V5_main_arg1 m _ c),
      (hb (Proc.devRef .tc main_arg2) (Finset.mem_filter.mpr ⟨StableHlo.devRef_mem_tcRefs main_arg2, by decide⟩)).trans (V5_main_arg2 m _ c),
      (hb (Proc.devRef .tc main_arg3) (Finset.mem_filter.mpr ⟨StableHlo.devRef_mem_tcRefs main_arg3, by decide⟩)).trans (V5_main_arg3 m _ c),
      (hb (Proc.devRef .tc main_arg4) (Finset.mem_filter.mpr ⟨StableHlo.devRef_mem_tcRefs main_arg4, by decide⟩)).trans (V5_main_arg4 m _ c),
      (hb (Proc.devRef .tc main_arg5) (Finset.mem_filter.mpr ⟨StableHlo.devRef_mem_tcRefs main_arg5, by decide⟩)).trans (V5_main_arg5 m _ c)⟩, h.2⟩)
    (run_main m fg hfg hG ρ)

end Cert.KernelIdeal.Hand

end
-- ==== Proof.Frames.lean ====
/-
  The frames of the three programs, and the named constant.
-/
module

public import proofs.«01_k».proof.Defs
public import proofs.«01_k».proof.Proof.GateForget
public import proofs.«01_k».proof.Proof.Run
public import proofs.«01_k».proof.Proof.WordGateForget
public import proofs.«01_k».proof.Proof.WordRun
public import proofs.«01_k».proof.Proof.Gen.ReferenceIdeal.Run
public import Idealize.ShloMosaic.Adequacy
public import Idealize.ShloMosaic.Init

@[expose] public section

noncomputable section

namespace Cert.Proof.Frames

open Idealize.ShloMosaic Idealize.ShloMosaic.TcCoe Idealize.SL.Sem

/-- The kernel as printed runs, leaves its arguments and ends with every semaphore at zero. -/
theorem frame_p : Cert.quiescent_Kernel := fun m ρ _ =>
  Cert.Kernel.Hand.frame m Cert.Kernel.Hand.forgets (by decide)
    (fun c => Cert.Kernel.Hand.gate_obligation (Cert.Kernel.Gen.V1 m) c ()) ρ

/-- So does the idealized kernel. -/
theorem frame_pi : Cert.quiescent_KernelIdeal := fun m ρ _ =>
  Cert.KernelIdeal.Hand.frame m Cert.KernelIdeal.Hand.forgets (by decide)
    (fun c => Cert.KernelIdeal.Hand.gate_obligation (Cert.KernelIdeal.Gen.V1 m) c ()) ρ

/-- So does the reference. -/
theorem frame_ri : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The named constant is 1/32400, and the kernel's literal is that number's float. -/
theorem preserves : Cert.preserves_Kernel_KernelIdeal :=
  IdealRules.named_const.statement Cert.KernelIdeal.κ "inv_hw" .f32 0x3801742E#32 ((1 / 32400 : ℝ) : EReal) rfl

end Cert.Proof.Frames

end
-- ==== Proof.GateIdx.lean ====
/-
  Where the gating call's blocks lie: the index maps of its windows and how many rows of a block lie inside its array, at every
  grid point; and the staged token blocks read at a row inside the array.
-/
module

public import proofs.«01_k».proof.Proof.GateData
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The index maps: the batch and the tile, or the whole array. -/
theorem gidx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![0, 0] ∧ win0_5.index t = ![0, 0] ∧ win0_6.index t = ![0, 0]
    ∧ win0_7.index t = ![t.val / 16, t.val % 16, 0] ∧ win0_8.index t = ![t.val / 16, t.val % 16, 0] ∧ win0_9.index t = ![t.val / 16, t.val % 16, 0]
    ∧ win0_10.index t = ![t.val / 16, 0, 0] :=
  (by decide +kernel : ∀ t : Fin grid0.N, _)

/-- How much of a token block lies inside its array. -/
theorem gsize : ∀ t : Fin cfg0.N, win0_0.xsize (grid0.coords t) = ![1, min 2048 (32400 - t.val % 16 * 2048), 256]
    ∧ win0_1.xsize (grid0.coords t) = ![1, min 2048 (32400 - t.val % 16 * 2048), 256]
    ∧ win0_7.xsize (grid0.coords t) = ![1, min 2048 (32400 - t.val % 16 * 2048), 3]
    ∧ win0_8.xsize (grid0.coords t) = ![1, min 2048 (32400 - t.val % 16 * 2048), 3]
    ∧ win0_9.xsize (grid0.coords t) = ![1, min 2048 (32400 - t.val % 16 * 2048), 1] :=
  (by decide +kernel : ∀ t : Fin grid0.N, _)

theorem gN : cfg0.N = 64 := by decide

variable (W : Dev nD → Valuation τ sig (Elt Ideal)) (c : Dev nD)

/-- The staged camera block at a row inside the array. -/
theorem tokC_at (t : Fin cfg0.N) (d : FVec Ideal S1x2048x256 .f32) (r : Fin 2048) (hr : t.val % 16 * 2048 + r.val < 32400) (hb : t.val / 16 < 4) (k : Fin 256) :
    tokC W c t d (ix3 0 r k) = (show FVec Ideal S4x32400x256 .f32 from W c main_call0_v1) (ix3 ⟨t.val / 16, hb⟩ ⟨t.val % 16 * 2048 + r.val, hr⟩ k) := by
  unfold tokC Pipeline.Window.fill
  have hm : win0_0.moved (grid0.coords t) (ix3 0 r k : S1x2048x256.Idx) = true := by
    rw [Pipeline.Window.moved_iff, (gsize t).1]
    intro a
    have := r.isLt
    have := k.isLt
    fin_cases a
    · show 0 < 1; omega
    · show r.val < min 2048 (32400 - t.val % 16 * 2048); omega
    · show k.val < 256; omega
  rw [dif_pos hm]
  unfold blkC
  blk_ext [gidx t]

/-- The staged lidar block at a row inside the array. -/
theorem tokL_at (t : Fin cfg0.N) (d : FVec Ideal S1x2048x256 .f32) (r : Fin 2048) (hr : t.val % 16 * 2048 + r.val < 32400) (hb : t.val / 16 < 4) (k : Fin 256) :
    tokL W c t d (ix3 0 r k) = (show FVec Ideal S4x32400x256 .f32 from W c main_call0_v3) (ix3 ⟨t.val / 16, hb⟩ ⟨t.val % 16 * 2048 + r.val, hr⟩ k) := by
  unfold tokL Pipeline.Window.fill
  have hm : win0_1.moved (grid0.coords t) (ix3 0 r k : S1x2048x256.Idx) = true := by
    rw [Pipeline.Window.moved_iff, (gsize t).2.1]
    intro a
    have := r.isLt
    have := k.isLt
    fin_cases a
    · show 0 < 1; omega
    · show r.val < min 2048 (32400 - t.val % 16 * 2048); omega
    · show k.val < 256; omega
  rw [dif_pos hm]
  unfold blkL
  blk_ext [gidx t]

/-- The weight and bias blocks are their arrays. -/
theorem wA_eq (t : Fin cfg0.N) : wA W c t = W c main_call0_v4 := by unfold wA; blk_ext! [gidx t]
theorem wB_eq (t : Fin cfg0.N) : wB W c t = W c main_call0_v5 := by unfold wB; blk_ext! [gidx t]
theorem bA_eq (t : Fin cfg0.N) : bA W c t = W c main_call0_v6 := by unfold bA; blk_ext! [gidx t]
theorem wO_eq (t : Fin cfg0.N) : wO W c t = W c main_arg4 := by unfold wO; blk_ext! [gidx t]
theorem bO_eq (t : Fin cfg0.N) : bO W c t = W c main_call0_v7 := by unfold bO; blk_ext! [gidx t]

end Cert.KernelIdeal.Hand

end
-- ==== Proof.Rows.lean ====
/-
  One token's mathematics over the extended reals: its hidden vector, its three logits, their softmax, the best of the three,
  the gate that keeps the best alone, and the mask of the tokens whose best is one of the first two.
-/
module

public import Idealize.ShloMosaic.Lib.Pointwise
public import Idealize.ShloMosaic.Lib.SortFacts

@[expose] public section

set_option maxRecDepth 16384

noncomputable section

namespace Cert.Proof.Row

open Idealize.ShloMosaic

/-- The hidden vector before its activation, the token given as its two halves. -/
def hid (u v : Fin 256 → EReal) (A B : Fin 256 → Fin 512 → EReal) (b : Fin 512 → EReal) (j : Fin 512) : EReal :=
  ∑ k, u k * A k j + ∑ k, v k * B k j + b j

/-- The three logits of a hidden vector. -/
def logit (h : Fin 512 → EReal) (W : Fin 512 → Fin 3 → EReal) (b : Fin 3 → EReal) (e : Fin 3) : EReal :=
  ∑ j, h j * Ideal.logistic (h j) * W j e + b e

/-- The largest logit (starting from what the word of −∞ names). -/
def top (l : Fin 3 → EReal) : EReal := Finset.fold max (Ideal.ofBits .f32 0xFF800000#32) l Finset.univ

/-- Their softmax. -/
def soft (l : Fin 3 → EReal) (e : Fin 3) : EReal := Ideal.div (Ideal.exp (l e - top l)) (∑ k, Ideal.exp (l k - top l))

/-- The first of the greatest. -/
def best (p : Fin 3 → EReal) : Fin 3 := if p 1 ≤ p 0 ∧ p 2 ≤ p 0 then 0 else if p 2 ≤ p 1 then 1 else 2

/-- The greatest kept, the others zero. -/
def gate (p : Fin 3 → EReal) (e : Fin 3) : EReal := if best p = e then p e else 0

/-- One where the first two gates' sum is positive, zero elsewhere. -/
def keep (p : Fin 3 → EReal) : EReal := if 0 < gate p 0 + gate p 1 then 1 else 0

/-- Starting the maximum once more from the same word changes nothing. -/
theorem max_top (l : Fin 3 → EReal) : max (Ideal.ofBits .f32 0xFF800000#32) (Finset.fold max (Ideal.ofBits .f32 0xFF800000#32) l Finset.univ) = top l :=
  max_eq_right (Finset.le_fold_max _ |>.mpr (Or.inl le_rfl))

/-- The stable descending sort of three values puts the first of the greatest first. -/
theorem sortedFrom_best (p : Fin 3 → EReal) : sortedFrom (fun k k' => Ideal.cmpTotal .gt (p k) (p k') == 1#1) (0 : Fin 3) = best p := by
  have hb : ∀ k k' : Fin 3, (Ideal.cmpTotal .gt (p k) (p k') == 1#1) = decide (p k' < p k) := by
    intro k k'
    show (BitVec.ofBool (decide (p k' < p k)) == 1#1) = decide (p k' < p k)
    cases decide (p k' < p k) <;> rfl
  simp only [hb]
  have key : ∀ B : Fin 3 → Fin 3 → Bool, sortedFrom B (0 : Fin 3) =
      if B 2 1 then (if B 2 0 then 2 else 0) else (if B 1 0 then 1 else 0) := by
    intro B
    have e : (stableSort B [0, 1, 2])[0]'(by rw [length_stableSort]; decide) = if B 2 1 then (if B 2 0 then 2 else 0) else (if B 1 0 then 1 else 0) := by
      cases h21 : B 2 1 <;> cases h20 : B 2 0 <;> cases h10 : B 1 0 <;> simp [stableSort, insertBefore, h21, h20, h10]
    exact e
  rw [key]
  unfold best
  simp only [decide_eq_true_eq]
  by_cases h1 : p 1 < p 2
  · rw [if_pos h1]
    by_cases h2 : p 0 < p 2
    · rw [if_pos h2, if_neg (fun h => absurd h.2 (not_le.mpr h2)), if_neg (not_le.mpr h1)]
    · rw [if_neg h2, if_pos ⟨(h1.le.trans (not_lt.mp h2)), not_lt.mp h2⟩]
  · rw [if_neg h1]
    by_cases h2 : p 0 < p 1
    · rw [if_pos h2, if_neg (fun h => absurd h.1 (not_le.mpr h2)), if_pos (not_lt.mp h1)]
    · rw [if_neg h2, if_pos ⟨not_lt.mp h2, (not_lt.mp h1).trans (not_lt.mp h2)⟩]

/-- The masks the gate is selected by, as words: the first is greatest; -/
def m0 (p : Fin 3 → EReal) : BitVec 1 := IntOp.andi (BitVec.ofBool (decide (p 1 ≤ p 0))) (BitVec.ofBool (decide (p 2 ≤ p 0)))
/-- the first is not and the second is no less than the third; -/
def m1 (p : Fin 3 → EReal) : BitVec 1 := IntOp.andi (IntOp.xori (m0 p) 1#1) (BitVec.ofBool (decide (p 2 ≤ p 1)))
/-- neither. -/
def m2 (p : Fin 3 → EReal) : BitVec 1 := IntOp.xori (IntOp.ori (m0 p) (m1 p)) 1#1

/-- Each mask selects its own gate. -/
theorem select_m0 (p : Fin 3 → EReal) : Scalar.select (m0 p) (p 0) 0 = gate p 0 := by
  unfold gate best m0
  by_cases a : p 1 ≤ p 0 <;> by_cases b : p 2 ≤ p 0 <;> by_cases d : p 2 ≤ p 1 <;> simp [a, b, d, Scalar.select, IntOp.andi]
theorem select_m1 (p : Fin 3 → EReal) : Scalar.select (m1 p) (p 1) 0 = gate p 1 := by
  unfold gate best m1 m0
  by_cases a : p 1 ≤ p 0 <;> by_cases b : p 2 ≤ p 0 <;> by_cases d : p 2 ≤ p 1 <;> simp [a, b, d, Scalar.select, IntOp.andi, IntOp.xori]
theorem select_m2 (p : Fin 3 → EReal) : Scalar.select (m2 p) (p 2) 0 = gate p 2 := by
  unfold gate best m2 m1 m0
  by_cases a : p 1 ≤ p 0 <;> by_cases b : p 2 ≤ p 0 <;> by_cases d : p 2 ≤ p 1 <;> simp [a, b, d, Scalar.select, IntOp.andi, IntOp.xori, IntOp.ori]

/-- The one-bit word of a proposition, widened and read as a signed integer, is one or zero. -/
theorem sitofp_ofBool (P : Prop) [Decidable P] : FloatOps.sitofp (F := Ideal) .f32 (BitVec.setWidth 32 (BitVec.ofBool (decide P))) = if P then (1 : EReal) else 0 := by
  by_cases h : P
  · simp only [h, decide_true, if_true]; show (((BitVec.setWidth 32 (BitVec.ofBool true)).toInt : ℝ) : EReal) = 1; simp
  · simp only [h, decide_false, if_false]; show (((BitVec.setWidth 32 (BitVec.ofBool false)).toInt : ℝ) : EReal) = 0; simp

/-- The same word read as an unsigned integer. -/
theorem uitofp_ofBool (P : Prop) [Decidable P] : FloatOps.uitofp (F := Ideal) .f32 (BitVec.ofBool (decide P)) = if P then (1 : EReal) else 0 := by
  by_cases h : P
  · simp only [h, decide_true, if_true]; show (((BitVec.ofBool true).toNat : ℝ) : EReal) = 1; simp
  · simp only [h, decide_false, if_false]; show (((BitVec.ofBool false).toNat : ℝ) : EReal) = 0; simp

end Cert.Proof.Row

end
-- ==== Proof.GateRows.lean ====
/-
  The gate kernel's payloads over the extended reals, read at a row of the tile: each is the token's own mathematics
  (`Row`) at that row of the two token blocks.
-/
module

public import proofs.«01_k».proof.Proof.GateBody
public import proofs.«01_k».proof.Proof.Rows
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe
open Cert.Proof

variable (x2 x3 : FVec Ideal S1x2048x256 .f32) (x4 x5 : FVec Ideal S256x512 .f32) (x6 : FVec Ideal S1x512 .f32) (x7 : FVec Ideal S512x3 .f32) (x8 : FVec Ideal S1x3 .f32)

/-- The three probabilities of the tile's row `r`. -/
def tRow (r : Fin 2048) : Fin 3 → EReal :=
  Row.soft (Row.logit (Row.hid (fun k => x2 (ix3 0 r k)) (fun k => x3 (ix3 0 r k)) (fun k j => x4 (ix2 k j)) (fun k j => x5 (ix2 k j)) (fun j => x6 (ix2 0 j)))
    (fun j e => x7 (ix2 j e)) (fun e => x8 (ix2 0 e)))

/-- A row depends on the two token blocks at that row alone. -/
theorem tRow_congr {x2 x3 y2 y3 : FVec Ideal S1x2048x256 .f32} (r : Fin 2048) (h2 : ∀ k, x2 (ix3 0 r k) = y2 (ix3 0 r k)) (h3 : ∀ k, x3 (ix3 0 r k) = y3 (ix3 0 r k)) :
    tRow x2 x3 x4 x5 x6 x7 x8 r = tRow y2 y3 x4 x5 x6 x7 x8 r := by
  unfold tRow
  rw [funext h2, funext h3]

theorem pay4_at (r : Fin 2048) (e : Fin 3) : k0_pay4 (F := Ideal) x2 x3 x4 x5 x6 x7 x8 (ix2 r e) = tRow x2 x3 x4 x5 x6 x7 x8 r e := by
  pointwise [k0_pay4]
  rfl
theorem pay5_at (r : Fin 2048) : k0_pay5 (F := Ideal) x2 x3 x4 x5 x6 x7 x8 (ix2 r 0) = tRow x2 x3 x4 x5 x6 x7 x8 r 0 := by
  pointwise [k0_pay5]
  exact pay4_at x2 x3 x4 x5 x6 x7 x8 r 0
theorem pay6_at (r : Fin 2048) : k0_pay6 (F := Ideal) x2 x3 x4 x5 x6 x7 x8 (ix2 r 0) = tRow x2 x3 x4 x5 x6 x7 x8 r 1 := by
  pointwise [k0_pay6]
  exact pay4_at x2 x3 x4 x5 x6 x7 x8 r 1
theorem pay7_at (r : Fin 2048) : k0_pay7 (F := Ideal) x2 x3 x4 x5 x6 x7 x8 (ix2 r 0) = tRow x2 x3 x4 x5 x6 x7 x8 r 2 := by
  pointwise [k0_pay7]
  exact pay4_at x2 x3 x4 x5 x6 x7 x8 r 2
theorem pay8_at (r : Fin 2048) : k0_pay8 (F := Ideal) x2 x3 x4 x5 x6 x7 x8 (ix2 r 0) = BitVec.ofBool (decide (tRow x2 x3 x4 x5 x6 x7 x8 r 1 ≤ tRow x2 x3 x4 x5 x6 x7 x8 r 0)) := by
  pointwise [k0_pay8]
  rw [pay5_at, pay6_at]
theorem pay9_at (r : Fin 2048) : k0_pay9 (F := Ideal) x2 x3 x4 x5 x6 x7 x8 (ix2 r 0) = BitVec.ofBool (decide (tRow x2 x3 x4 x5 x6 x7 x8 r 2 ≤ tRow x2 x3 x4 x5 x6 x7 x8 r 0)) := by
  pointwise [k0_pay9]
  rw [pay5_at, pay7_at]

/-- The tile's probabilities at a row. -/
theorem gProbs_at (r : Fin 2048) (e : Fin 3) : gProbs (F := Ideal) x2 x3 x4 x5 x6 x7 x8 (ix3 0 r e) = tRow x2 x3 x4 x5 x6 x7 x8 r e := by
  pointwise [gProbs, k0_pay15]
  exact pay4_at x2 x3 x4 x5 x6 x7 x8 r e

section Masks

variable (p : Fin 3 → EReal) (v32 v33 v34 : FVec Ideal S2048x1 .f32) (v35 v36 : IVec S2048x1 1) (r : Fin 2048)
  (h0 : v32 (ix2 r 0) = p 0) (h1 : v33 (ix2 r 0) = p 1) (h2 : v34 (ix2 r 0) = p 2)
  (h3 : v35 (ix2 r 0) = BitVec.ofBool (decide (p 1 ≤ p 0))) (h4 : v36 (ix2 r 0) = BitVec.ofBool (decide (p 2 ≤ p 0)))
include h0 h1 h2 h3 h4

theorem pay12_at : k0_pay12 (F := Ideal) v32 v35 v36 (ix2 r 0) = Row.gate p 0 := by
  pointwise [k0_pay12, k0_pay10]
  rw [h0, h3, h4]
  exact Row.select_m0 p
theorem pay13_at : k0_pay13 (F := Ideal) v33 v34 v35 v36 (ix2 r 0) = Row.gate p 1 := by
  pointwise [k0_pay13, k0_pay11, k0_pay10]
  rw [h1, h2, h3, h4]
  exact Row.select_m1 p
theorem pay14_at : k0_pay14 (F := Ideal) v32 v33 v34 v35 v36 (ix2 r 0) = Row.keep p := by
  pointwise [k0_pay14]
  rw [pay12_at p v32 v33 v34 v35 v36 r h0 h1 h2 h3 h4, pay13_at p v32 v33 v34 v35 v36 r h0 h1 h2 h3 h4]
  exact Row.sitofp_ofBool _
theorem pay16_at (e : Fin 3) : k0_pay16 (F := Ideal) v32 v33 v34 v35 v36 (ix3 0 r e) = Row.gate p e := by
  pointwise [k0_pay16]
  obtain rfl | rfl | rfl : e = 0 ∨ e = 1 ∨ e = 2 := by omega
  · exact pay12_at p v32 v33 v34 v35 v36 r h0 h1 h2 h3 h4
  · exact pay13_at p v32 v33 v34 v35 v36 r h0 h1 h2 h3 h4
  · refine Eq.trans ?_ (Row.select_m2 p)
    show Scalar.select (IntOp.xori (IntOp.ori (k0_pay10 v35 v36 (ix2 r 0)) (k0_pay11 v33 v34 v35 v36 (ix2 r 0))) 1#1) (v34 (ix2 r 0)) 0 = _
    pointwise [k0_pay11, k0_pay10]
    rw [h1, h2, h3, h4]
    rfl

end Masks

/-- The tile's gate at a row. -/
theorem gGate_at (r : Fin 2048) (e : Fin 3) : gGate (F := Ideal) x2 x3 x4 x5 x6 x7 x8 (ix3 0 r e) = Row.gate (tRow x2 x3 x4 x5 x6 x7 x8 r) e :=
  pay16_at _ _ _ _ _ _ r (pay5_at ..) (pay6_at ..) (pay7_at ..) (pay8_at ..) (pay9_at ..) e

/-- The tile's keep mask at a row. -/
theorem gKeep_at (r : Fin 2048) : gKeep (F := Ideal) x2 x3 x4 x5 x6 x7 x8 (ix3 0 r 0) = Row.keep (tRow x2 x3 x4 x5 x6 x7 x8 r) := by
  pointwise [gKeep, k0_pay17]
  exact pay14_at _ _ _ _ _ _ r (pay5_at ..) (pay6_at ..) (pay7_at ..) (pay8_at ..) (pay9_at ..)

/-- The tile's sum: the keep mask over its rows inside the array. -/
theorem gSum_at (n : ℕ) (hn : n < 16) (j : S1x1x1.Idx) : gSum (F := Ideal) x2 x3 x4 x5 x6 x7 x8 n j
    = ∑ r : Fin 2048, if n * 2048 + r.val < 32400 then Row.keep (tRow x2 x3 x4 x5 x6 x7 x8 r) else 0 := by
  idx_vars j
  pointwise [gSum, k0_pay18]
  refine Finset.sum_congr rfl fun r _ => ?_
  rw [pay14_at (tRow x2 x3 x4 x5 x6 x7 x8 r) _ _ _ _ _ r (pay5_at ..) (pay6_at ..) (pay7_at ..) (pay8_at ..) (pay9_at ..)]
  have hw : IntOp.addi (BitVec.ofNat 32 r.val) (Scalar.muli (BitVec.ofNat 32 n) 2048#32) = BitVec.ofNat 32 (n * 2048 + r.val) := by
    show BitVec.ofNat 32 r.val + BitVec.ofNat 32 n * BitVec.ofNat 32 2048 = _
    rw [← BitVec.ofNat_mul, ← BitVec.ofNat_add, Nat.add_comm]
  rw [hw]
  have hr := r.isLt
  simp (disch := omega) only [hlo_ix]

end Cert.KernelIdeal.Hand

end
-- ==== Proof.GateExact.lean ====
/-
  The gating call's body at every grid point, against its proof data, all four results named. What the staged token blocks
  hold past their arrays' ends must not reach a row inside the result's array, nor the tile's sum (`RowsOnly`).
-/
module

public import proofs.«01_k».proof.Proof.GateData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Named F]
variable {Ix : Type} [DecidableEq Ix] {U : Type} [URA U] {Lvl : Type} [Preorder Lvl]

local notation "𝕄" => MT nD τ sig Ix (Elt F) ℕ U Lvl

variable (W : Dev nD → Valuation τ sig (Elt F)) (c : Dev nD)

/-- What is staged past the arrays' ends reaches no row inside a result's array and no tile's sum. -/
structure RowsOnly : Prop where
  probs : ∀ (t : Fin cfg0.N) (d0 d1 : Vec F S1x2048x256 .f32),
    win0_7.cut (grid0.coords t) (outP W c t d0 d1) = win0_7.cut (grid0.coords t) (outP W c t zfill zfill)
  gate : ∀ (t : Fin cfg0.N) (d0 d1 : Vec F S1x2048x256 .f32),
    win0_8.cut (grid0.coords t) (outG W c t d0 d1) = win0_8.cut (grid0.coords t) (outG W c t zfill zfill)
  keep : ∀ (t : Fin cfg0.N) (d0 d1 : Vec F S1x2048x256 .f32),
    win0_9.cut (grid0.coords t) (outK W c t d0 d1) = win0_9.cut (grid0.coords t) (outK W c t zfill zfill)
  sum : ∀ (t : Fin cfg0.N) (d0 d1 : Vec F S1x2048x256 .f32), outS W c t d0 d1 = outS W c t zfill zfill

/-- The forgotten windows: none. -/
def tracksAll : Fin 11 → Bool := fun _ => false

/-- At every point the body runs from the staged inputs to the same inputs and the named results. -/
theorem gate_obligation_exact (hR : RowsOnly W c) (ι : Ix) : BodyObligationLoose (gDat (Ix := Ix) (U := U) (Lvl := Lvl) W c) (defs₀ (F := F)) Variants.none ι Set.univ tracksAll := fun t => by
  rw [bigSep_W0, bigSep_W0]
  simp only [tracksAll]
  rw [show (gDat (Ix := Ix) (U := U) (Lvl := Lvl) W c).Φ t.succ = (gDat (Ix := Ix) (U := U) (Lvl := Lvl) W c).Φ t.castSucc from rfl, show (gDat (Ix := Ix) (U := U) (Lvl := Lvl) W c).owesAt ι t.succ = (gDat (Ix := Ix) (U := U) (Lvl := Lvl) W c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 W c t d0, before_1 W c t d1, before_2 W c t d2, before_3 W c t d3, before_4 W c t d4, before_5 W c t d5, before_6 W c t d6]
  rw [defs₀_gate]
  iapply (gate_run (F := F) c (grid0.coords t) _ _ _ _ _ _ _ _ _ _ _ _ _ _ _ _ _ _ _ _ _ _
    (tokC W c t d0) (tokL W c t d1) (wA W c t) (wB W c t) (bA W c t) (wO W c t) (bO W c t) ((gDat (Ix := Ix) (U := U) (Lvl := Lvl) W c).before (7 : Fin 11) t d7)
    ((gDat (Ix := Ix) (U := U) (Lvl := Lvl) W c).before (8 : Fin 11) t d8) ((gDat (Ix := Ix) (U := U) (Lvl := Lvl) W c).before (9 : Fin 11) t d9) ((gDat (Ix := Ix) (U := U) (Lvl := Lvl) W c).before (10 : Fin 11) t d10) _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  have h0 : tokC W c t d0 = win0_0.fill (grid0.coords t) d0 (win0_0.cut (grid0.coords t) (tokC W c t zfill)) :=
    congrArg (win0_0.fill (grid0.coords t) d0) (win0_0.cut_fill _ _ _).symm
  have h1 : tokL W c t d1 = win0_1.fill (grid0.coords t) d1 (win0_1.cut (grid0.coords t) (tokL W c t zfill)) :=
    congrArg (win0_1.fill (grid0.coords t) d1) (win0_1.cut_fill _ _ _).symm
  isplitl [HΦ]; · iexact HΦ
  isplitl [Ho]; · iexact Ho
  isplitl [H0]
  · iexists d0
    iapply (Entails.of_eq (congrArg (owns (c : Thread nD τ) (stage0_0 (cfg0.slots t 0)) fullShare) h0)); iexact H0
  isplitl [H1]
  · iexists d1
    iapply (Entails.of_eq (congrArg (owns (c : Thread nD τ) (stage0_1 (cfg0.slots t 1)) fullShare) h1)); iexact H1
  isplitl [H2]; · iexact H2
  isplitl [H3]; · iexact H3
  isplitl [H4]; · iexact H4
  isplitl [H5]; · iexact H5
  isplitl [H6]; · iexact H6
  isplitl [H7]
  · iexists (outP W c t d0 d1)
    have e : outP W c t d0 d1 = win0_7.fill (grid0.coords t) (outP W c t d0 d1) (win0_7.cut (grid0.coords t) (outP W c t zfill zfill)) := by
      rw [← hR.probs t d0 d1, win0_7.fill_cut]
    iapply (Entails.of_eq (congrArg (owns (c : Thread nD τ) (stage0_7 (cfg0.slots t 7)) fullShare) e)); iexact H7
  isplitl [H8]
  · iexists (outG W c t d0 d1)
    have e : outG W c t d0 d1 = win0_8.fill (grid0.coords t) (outG W c t d0 d1) (win0_8.cut (grid0.coords t) (outG W c t zfill zfill)) := by
      rw [← hR.gate t d0 d1, win0_8.fill_cut]
    iapply (Entails.of_eq (congrArg (owns (c : Thread nD τ) (stage0_8 (cfg0.slots t 8)) fullShare) e)); iexact H8
  isplitl [H9]
  · iexists (outK W c t d0 d1)
    have e : outK W c t d0 d1 = win0_9.fill (grid0.coords t) (outK W c t d0 d1) (win0_9.cut (grid0.coords t) (outK W c t zfill zfill)) := by
      rw [← hR.keep t d0 d1, win0_9.fill_cut]
    iapply (Entails.of_eq (congrArg (owns (c : Thread nD τ) (stage0_9 (cfg0.slots t 9)) fullShare) e)); iexact H9
  have hs : (show Vec F S1x1x1 .f32 from ratioStep (grid0.coords t 1).val (outS W c t d0 d1) ((gDat (Ix := Ix) (U := U) (Lvl := Lvl) W c).before (10 : Fin 11) t d10)) = accR W c t.val t.isLt :=
    (congrArg (fun s => ratioStep (grid0.coords t 1).val s ((gDat (Ix := Ix) (U := U) (Lvl := Lvl) W c).before (10 : Fin 11) t d10)) (hR.sum t d0 d1)).trans (accR_step W c t d10)
  iapply (Entails.of_eq (congrArg (owns (c : Thread nD τ) (stage0_10 (cfg0.slots t 10)) fullShare) hs)); iexact H10

end Cert.KernelIdeal.Hand

end
-- ==== Proof.GateValue.lean ====
/-
  The gating call's results over the extended reals: at every token its probabilities, its gate and its keep mask, and for
  every batch the keep mask's mean.
-/
module

public import proofs.«01_k».proof.Proof.GateIdx
public import proofs.«01_k».proof.Proof.GateRows
public import proofs.«01_k».proof.Proof.GateExact

@[expose] public section

set_option maxRecDepth 16384

noncomputable section

namespace Cert.KernelIdeal.Hand

open Cert.KernelIdeal Cert.KernelIdeal.Gen
open Idealize.ShloMosaic Idealize.ShloMosaic.TcCoe Idealize.SL Idealize.SL.RA Idealize.SL.Sem
open Idealize.ShloMosaic.Pipeline (Dat)
open Cert.Proof

variable (W : Dev nD → Valuation τ sig (Elt Ideal)) (c : Dev nD)

/-- The three probabilities of token `n` of batch `b`, from the arrays the call reads. -/
def tokRow (b : Fin 4) (n : Fin 32400) : Fin 3 → EReal :=
  Row.soft (Row.logit (Row.hid
      (fun k => (show FVec Ideal S4x32400x256 .f32 from W c main_call0_v1) (ix3 b n k))
      (fun k => (show FVec Ideal S4x32400x256 .f32 from W c main_call0_v3) (ix3 b n k))
      (fun k j => (show FVec Ideal S256x512 .f32 from W c main_call0_v4) (ix2 k j))
      (fun k j => (show FVec Ideal S256x512 .f32 from W c main_call0_v5) (ix2 k j))
      (fun j => (show FVec Ideal S1x512 .f32 from W c main_call0_v6) (ix2 0 j)))
    (fun j e => (show FVec Ideal S512x3 .f32 from W c main_arg4) (ix2 j e))
    (fun e => (show FVec Ideal S1x3 .f32 from W c main_call0_v7) (ix2 0 e)))

/-- The staged tile's row inside the array is its token's. -/
theorem tRow_tok (t : Fin cfg0.N) (d0 d1 : FVec Ideal S1x2048x256 .f32) (r : Fin 2048) (hr : t.val % 16 * 2048 + r.val < 32400) (hb : t.val / 16 < 4) :
    tRow (tokC W c t d0) (tokL W c t d1) (wA W c t) (wB W c t) (bA W c t) (wO W c t) (bO W c t) r = tokRow W c ⟨t.val / 16, hb⟩ ⟨t.val % 16 * 2048 + r.val, hr⟩ := by
  unfold tRow tokRow
  rw [funext fun k => tokC_at W c t d0 r hr hb k, funext fun k => tokL_at W c t d1 r hr hb k, wA_eq, wB_eq, bA_eq, wO_eq, bO_eq]

theorem batch_lt (t : Fin cfg0.N) : t.val / 16 < 4 := by have := t.isLt; have := gN; omega

/-- The tile's sum, whatever is staged past the arrays' ends. -/
theorem outS_at (t : Fin cfg0.N) (d0 d1 : FVec Ideal S1x2048x256 .f32) (j : S1x1x1.Idx) :
    outS W c t d0 d1 j = ∑ r : Fin 2048, if h : t.val % 16 * 2048 + r.val < 32400 then Row.keep (tokRow W c ⟨t.val / 16, batch_lt t⟩ ⟨t.val % 16 * 2048 + r.val, h⟩) else 0 := by
  unfold outS
  rw [gSum_at _ _ _ _ _ _ _ _ (by rw [tile_val]; omega), tile_val]
  refine Finset.sum_congr rfl fun r _ => ?_
  by_cases h : t.val % 16 * 2048 + r.val < 32400
  · rw [if_pos h, dif_pos h, tRow_tok W c t d0 d1 r h (batch_lt t)]
  · rw [if_neg h, dif_neg h]

/-- The results at a row inside the array. -/
theorem outP_at (t : Fin cfg0.N) (d0 d1 : FVec Ideal S1x2048x256 .f32) (r : Fin 2048) (hr : t.val % 16 * 2048 + r.val < 32400) (e : Fin 3) :
    outP W c t d0 d1 (ix3 0 r e) = tokRow W c ⟨t.val / 16, batch_lt t⟩ ⟨t.val % 16 * 2048 + r.val, hr⟩ e := by
  unfold outP; rw [gProbs_at, tRow_tok W c t d0 d1 r hr (batch_lt t)]
theorem outG_at (t : Fin cfg0.N) (d0 d1 : FVec Ideal S1x2048x256 .f32) (r : Fin 2048) (hr : t.val % 16 * 2048 + r.val < 32400) (e : Fin 3) :
    outG W c t d0 d1 (ix3 0 r e) = Row.gate (tokRow W c ⟨t.val / 16, batch_lt t⟩ ⟨t.val % 16 * 2048 + r.val, hr⟩) e := by
  unfold outG; rw [gGate_at, tRow_tok W c t d0 d1 r hr (batch_lt t)]
theorem outK_at (t : Fin cfg0.N) (d0 d1 : FVec Ideal S1x2048x256 .f32) (r : Fin 2048) (hr : t.val % 16 * 2048 + r.val < 32400) :
    outK W c t d0 d1 (ix3 0 r 0) = Row.keep (tokRow W c ⟨t.val / 16, batch_lt t⟩ ⟨t.val % 16 * 2048 + r.val, hr⟩) := by
  unfold outK; rw [gKeep_at, tRow_tok W c t d0 d1 r hr (batch_lt t)]

/-- An index of the part of a result's block inside its array: its row lies inside. -/
theorem row7 (t : Fin cfg0.N) (y : (win0_7.xblock (grid0.coords t)).Idx) : ∃ (r : Fin 2048) (e : Fin 3), t.val % 16 * 2048 + r.val < 32400 ∧ win0_7.xinj (grid0.coords t) y = (ix3 0 r e : S1x2048x3.Idx)
    ∧ (y 0).val = 0 ∧ (y 1).val = r.val ∧ (y 2).val = e.val := by
  have h0 : (y 0).val < win0_7.xsize (grid0.coords t) 0 := (y 0).isLt
  have h1 : (y 1).val < win0_7.xsize (grid0.coords t) 1 := (y 1).isLt
  have h2 : (y 2).val < win0_7.xsize (grid0.coords t) 2 := (y 2).isLt
  rw [(gsize t).2.2.1] at h0 h1 h2
  change (y 0).val < 1 at h0
  change (y 1).val < min 2048 (32400 - t.val % 16 * 2048) at h1
  change (y 2).val < 3 at h2
  refine ⟨⟨(y 1).val, by omega⟩, ⟨(y 2).val, h2⟩, by show _ + (y 1).val < _; omega, ?_, by omega, rfl, rfl⟩
  funext a
  apply Fin.ext
  fin_cases a
  · show (y 0).val = 0; omega
  · rfl
  · rfl
theorem row8 (t : Fin cfg0.N) (y : (win0_8.xblock (grid0.coords t)).Idx) : ∃ (r : Fin 2048) (e : Fin 3), t.val % 16 * 2048 + r.val < 32400 ∧ win0_8.xinj (grid0.coords t) y = (ix3 0 r e : S1x2048x3.Idx)
    ∧ (y 0).val = 0 ∧ (y 1).val = r.val ∧ (y 2).val = e.val := row7 t y
theorem row9 (t : Fin cfg0.N) (y : (win0_9.xblock (grid0.coords t)).Idx) : ∃ (r : Fin 2048), t.val % 16 * 2048 + r.val < 32400 ∧ win0_9.xinj (grid0.coords t) y = (ix3 0 r 0 : S1x2048x1.Idx)
    ∧ (y 0).val = 0 ∧ (y 1).val = r.val ∧ (y 2).val = 0 := by
  have h0 : (y 0).val < win0_9.xsize (grid0.coords t) 0 := (y 0).isLt
  have h1 : (y 1).val < win0_9.xsize (grid0.coords t) 1 := (y 1).isLt
  have h2 : (y 2).val < win0_9.xsize (grid0.coords t) 2 := (y 2).isLt
  rw [(gsize t).2.2.2.2] at h0 h1 h2
  change (y 0).val < 1 at h0
  change (y 1).val < min 2048 (32400 - t.val % 16 * 2048) at h1
  change (y 2).val < 1 at h2
  refine ⟨⟨(y 1).val, by omega⟩, by show _ + (y 1).val < _; omega, ?_, by omega, rfl, by omega⟩
  funext a
  apply Fin.ext
  fin_cases a
  · show (y 0).val = 0; omega
  · rfl
  · show (y 2).val = 0; omega

/-- Contents that agree on the rows inside the array agree where the block is written back. -/
theorem cut7_congr (t : Fin cfg0.N) (X Y : FVec Ideal S1x2048x3 .f32)
    (h : ∀ (r : Fin 2048) (e : Fin 3), t.val % 16 * 2048 + r.val < 32400 → X (ix3 0 r e) = Y (ix3 0 r e)) :
    win0_7.cut (grid0.coords t) X = win0_7.cut (grid0.coords t) Y :=
  funext fun y => by
    obtain ⟨r, e, hr, hy, -⟩ := row7 t y
    exact (congrArg X hy).trans ((h r e hr).trans (congrArg Y hy.symm))
theorem cut9_congr (t : Fin cfg0.N) (X Y : FVec Ideal S1x2048x1 .f32)
    (h : ∀ (r : Fin 2048), t.val % 16 * 2048 + r.val < 32400 → X (ix3 0 r 0) = Y (ix3 0 r 0)) :
    win0_9.cut (grid0.coords t) X = win0_9.cut (grid0.coords t) Y :=
  funext fun y => by
    obtain ⟨r, hr, hy, -⟩ := row9 t y
    exact (congrArg X hy).trans ((h r hr).trans (congrArg Y hy.symm))

/-- What is staged past the arrays' ends reaches no row inside a result's array and no tile's sum. -/
theorem rows_probs (t : Fin cfg0.N) (d0 d1 : FVec Ideal S1x2048x256 .f32) :
    win0_7.cut (grid0.coords t) (outP W c t d0 d1) = win0_7.cut (grid0.coords t) (outP W c t (zfill (F := Ideal)) (zfill (F := Ideal))) :=
  cut7_congr t _ _ fun r e hr => (outP_at W c t d0 d1 r hr e).trans (outP_at W c t (zfill (F := Ideal)) (zfill (F := Ideal)) r hr e).symm
theorem rows_gate (t : Fin cfg0.N) (d0 d1 : FVec Ideal S1x2048x256 .f32) :
    win0_8.cut (grid0.coords t) (outG W c t d0 d1) = win0_8.cut (grid0.coords t) (outG W c t (zfill (F := Ideal)) (zfill (F := Ideal))) :=
  cut7_congr t _ _ fun r e hr => (outG_at W c t d0 d1 r hr e).trans (outG_at W c t (zfill (F := Ideal)) (zfill (F := Ideal)) r hr e).symm
theorem rows_keep (t : Fin cfg0.N) (d0 d1 : FVec Ideal S1x2048x256 .f32) :
    win0_9.cut (grid0.coords t) (outK W c t d0 d1) = win0_9.cut (grid0.coords t) (outK W c t (zfill (F := Ideal)) (zfill (F := Ideal))) :=
  cut9_congr t _ _ fun r hr => (outK_at W c t d0 d1 r hr).trans (outK_at W c t (zfill (F := Ideal)) (zfill (F := Ideal)) r hr).symm
theorem rows_sum (t : Fin cfg0.N) (d0 d1 : FVec Ideal S1x2048x256 .f32) : outS W c t d0 d1 = outS W c t (zfill (F := Ideal)) (zfill (F := Ideal)) :=
  funext fun j => (outS_at W c t d0 d1 j).trans (outS_at W c t (zfill (F := Ideal)) (zfill (F := Ideal)) j).symm
theorem rowsOnly : RowsOnly W c := ⟨rows_probs W c, rows_gate W c, rows_keep W c, rows_sum W c⟩

end Cert.KernelIdeal.Hand

end
-- ==== Proof.GateArrays.lean ====
/-
  The gating call's four result arrays after its run, over the extended reals.
-/
module

public import proofs.«01_k».proof.Proof.GateValue

@[expose] public section

set_option maxRecDepth 16384

noncomputable section

namespace Cert.KernelIdeal.Hand

open Cert.KernelIdeal Cert.KernelIdeal.Gen
open Idealize.ShloMosaic Idealize.ShloMosaic.TcCoe Idealize.SL Idealize.SL.RA Idealize.SL.Sem
open Idealize.ShloMosaic.Pipeline (Dat)
open Cert.Proof

variable {Ix : Type} [DecidableEq Ix] {U : Type} [URA U] {Lvl : Type} [Preorder Lvl]
variable (W : Dev nD → Valuation τ sig (Elt Ideal)) (c : Dev nD)

/-- The probabilities, the gates and the keep mask of every token, as arrays. -/
def arrP : FVec Ideal S4x32400x3 .f32 := fun i => tokRow W c (i 0) (i 1) (i 2)
def arrG : FVec Ideal S4x32400x3 .f32 := fun i => Row.gate (tokRow W c (i 0) (i 1)) (i 2)
def arrK : FVec Ideal S4x32400x1 .f32 := fun i => Row.keep (tokRow W c (i 0) (i 1))

theorem covers7 : win0_7.Covers := by decide +kernel
theorem covers8 : win0_8.Covers := by decide +kernel
theorem covers9 : win0_9.Covers := by decide +kernel
theorem covers10 : win0_10.Covers := by decide +kernel

theorem final7 : (gDat (Ix := Ix) (U := U) (Lvl := Lvl) W c).arrAt (7 : Fin 11) cfg0.N = arrP W c := by
  refine (gDat (Ix := Ix) (U := U) (Lvl := Lvl) W c).arrAt_eq_of_covers (7 : Fin 11) _ covers7 fun t _ y => ?_
  obtain ⟨r, e, hr, hy, h0, h1, h2⟩ := row7 t y
  refine ((congrArg (outP W c t (zfill (F := Ideal)) (zfill (F := Ideal))) hy).trans (outP_at W c t _ _ r hr e)).trans ?_
  have ei : (((cfg0.win (7 : Fin 11)).blk t).view.emb y : S4x32400x3.Idx) = ix3 ⟨t.val / 16, batch_lt t⟩ ⟨t.val % 16 * 2048 + r.val, hr⟩ e := by
    blk_ext [gidx t]
  rw [ei]
  rfl

theorem final8 : (gDat (Ix := Ix) (U := U) (Lvl := Lvl) W c).arrAt (8 : Fin 11) cfg0.N = arrG W c := by
  refine (gDat (Ix := Ix) (U := U) (Lvl := Lvl) W c).arrAt_eq_of_covers (8 : Fin 11) _ covers8 fun t _ y => ?_
  obtain ⟨r, e, hr, hy, h0, h1, h2⟩ := row8 t y
  refine ((congrArg (outG W c t (zfill (F := Ideal)) (zfill (F := Ideal))) hy).trans (outG_at W c t _ _ r hr e)).trans ?_
  have ei : (((cfg0.win (8 : Fin 11)).blk t).view.emb y : S4x32400x3.Idx) = ix3 ⟨t.val / 16, batch_lt t⟩ ⟨t.val % 16 * 2048 + r.val, hr⟩ e := by
    blk_ext [gidx t]
  rw [ei]
  rfl

theorem final9 : (gDat (Ix := Ix) (U := U) (Lvl := Lvl) W c).arrAt (9 : Fin 11) cfg0.N = arrK W c := by
  refine (gDat (Ix := Ix) (U := U) (Lvl := Lvl) W c).arrAt_eq_of_covers (9 : Fin 11) _ covers9 fun t _ y => ?_
  obtain ⟨r, hr, hy, h0, h1, h2⟩ := row9 t y
  refine ((congrArg (outK W c t (zfill (F := Ideal)) (zfill (F := Ideal))) hy).trans (outK_at W c t _ _ r hr)).trans ?_
  have ei : (((cfg0.win (9 : Fin 11)).blk t).view.emb y : S4x32400x1.Idx) = ix3 ⟨t.val / 16, batch_lt t⟩ ⟨t.val % 16 * 2048 + r.val, hr⟩ 0 := by
    blk_ext [gidx t]
  rw [ei]
  rfl

/-! ## The mean -/

/-- The keep mask of a batch, zero past the array's end. -/
def keepN (b : Fin 4) (n : ℕ) : EReal := if h : n < 32400 then Row.keep (tokRow W c b ⟨n, h⟩) else 0

/-- One tile's part of a batch's sum. -/
def tileSum (b : Fin 4) (i : ℕ) : EReal := ∑ r : Fin 2048, keepN W c b (i * 2048 + r.val)

/-- The named constant. -/
theorem inv_hw : Named.named (F := Ideal) κ "inv_hw" (φ := .f32) 0x3801742E#32 = ((1 / 32400 : ℝ) : EReal) := rfl

theorem pay1_at (j : S1x1x1.Idx) : k0_pay1 (F := Ideal) j = 0 := by pointwise [k0_pay1]
theorem pay2_at (s d : FVec Ideal S1x1x1 .f32) (j : S1x1x1.Idx) : k0_pay2 (F := Ideal) s d j = d j + s j := by
  idx_vars j; pointwise [k0_pay2]
theorem pay3_at (d : FVec Ideal S1x1x1 .f32) (j : S1x1x1.Idx) : k0_pay3 (F := Ideal) d j = d j * ((1 / 32400 : ℝ) : EReal) := by
  idx_vars j; pointwise [k0_pay3]; rfl

theorem outS_tile (b : Fin 4) (i : ℕ) (hi : i < 16) (hn : 16 * b.val + i < cfg0.N) (d0 d1 : FVec Ideal S1x2048x256 .f32) (j : S1x1x1.Idx) :
    outS W c ⟨16 * b.val + i, hn⟩ d0 d1 j = tileSum W c b i := by
  rw [outS_at]
  have e1 : (16 * b.val + i) % 16 = i := by omega
  have e2 : (16 * b.val + i) / 16 = b.val := by omega
  unfold tileSum keepN
  refine Finset.sum_congr rfl fun r _ => ?_
  simp only [e1, e2]

/-- At a batch's first tile the accumulator starts from zero. -/
theorem accR_first (t : Fin cfg0.N) (h : t.val % 16 = 0) :
    accR W c t.val t.isLt = k0_pay2 (outS W c t (zfill (F := Ideal)) (zfill (F := Ideal))) (k0_pay1 (F := Ideal)) := by
  have hz : (grid0.coords t 1).val = 0 := by rw [tile_val]; exact h
  obtain ⟨n, hn⟩ := t
  cases n with
  | zero => exact ratioStep_first hz _ _
  | succ k => exact ratioStep_first hz _ _

/-- After a batch's tile `i` the accumulator holds the sum of its tiles so far, scaled after the last. -/
theorem accR_at (b : Fin 4) (j : S1x1x1.Idx) : ∀ (i : ℕ) (hi : i < 16) (hn : 16 * b.val + i < cfg0.N),
    accR W c (16 * b.val + i) hn j = if i = 15 then (∑ k ∈ Finset.range (i + 1), tileSum W c b k) * ((1 / 32400 : ℝ) : EReal) else ∑ k ∈ Finset.range (i + 1), tileSum W c b k := by
  intro i
  induction i with
  | zero =>
    intro hi hn
    rw [if_neg (by decide), Finset.sum_range_one]
    rw [accR_first W c ⟨16 * b.val + 0, hn⟩ (by show (16 * b.val + 0) % 16 = 0; omega), pay2_at, pay1_at, zero_add, outS_tile W c b 0 (by omega)]
  | succ i ih =>
    intro hi hn
    have hprev := ih (by omega) (by omega)
    have h : accR W c (16 * b.val + (i + 1)) hn = ratioStep (i + 1) (outS W c ⟨16 * b.val + (i + 1), hn⟩ (zfill (F := Ideal)) (zfill (F := Ideal))) (accR W c (16 * b.val + i) (by omega)) := by
      refine (show accR W c (16 * b.val + i + 1) hn = ratioStep (grid0.coords ⟨16 * b.val + i + 1, hn⟩ 1).val (outS W c ⟨16 * b.val + i + 1, hn⟩ (zfill (F := Ideal)) (zfill (F := Ideal))) (accR W c (16 * b.val + i) (by omega)) from rfl).trans ?_
      rw [tile_val]
      have : (16 * b.val + i + 1) % 16 = i + 1 := by omega
      simp only [this]
      rfl
    rw [if_neg (by omega)] at hprev
    rw [h]
    unfold ratioStep
    by_cases h15 : i + 1 = 15
    · rw [if_pos h15, if_pos h15, pay3_at, pay2_at, hprev, outS_tile W c b (i + 1) hi, ← Finset.sum_range_succ]
    · rw [if_neg h15, if_neg h15, if_neg (by omega), pay2_at, hprev, outS_tile W c b (i + 1) hi, ← Finset.sum_range_succ]

/-- The sixteen tiles' parts are the whole batch's sum. -/
theorem tiles_sum (b : Fin 4) : ∑ k ∈ Finset.range 16, tileSum W c b k = ∑ n : Fin 32400, Row.keep (tokRow W c b n) := by
  have h1 : ∑ k ∈ Finset.range 16, tileSum W c b k = ∑ n : Fin 32768, keepN W c b n.val := by
    rw [Finset.sum_range, Fin.sum_univ_tiles 16 2048 (by norm_num) (fun n : Fin 32768 => keepN W c b n.val)]
    rfl
  have h2 : ∑ n : Fin 32768, keepN W c b n.val = ∑ n : Fin 32400, keepN W c b n.val := by
    rw [← Finset.sum_range, ← Finset.sum_range]
    refine (Finset.sum_subset (Finset.range_mono (by norm_num)) fun n _ hn => ?_).symm
    exact dif_neg (by simpa using hn)
  rw [h1, h2]
  refine Finset.sum_congr rfl fun n _ => ?_
  exact dif_pos n.isLt

/-- The mean of every batch's keep mask, as an array. -/
def arrR : FVec Ideal S4x1x1 .f32 := fun i => (∑ n : Fin 32400, Row.keep (tokRow W c (i 0) n)) * ((1 / 32400 : ℝ) : EReal)

theorem final10 : (gDat (Ix := Ix) (U := U) (Lvl := Lvl) W c).arrAt (10 : Fin 11) cfg0.N = arrR W c := by
  refine (gDat (Ix := Ix) (U := U) (Lvl := Lvl) W c).arrAt_eq_of_covers (10 : Fin 11) _ covers10 fun t hf y => ?_
  have h15 : t.val % 16 = 15 := (flush0_10 t).mp hf
  have hb := batch_lt t
  have ei : (((cfg0.win (10 : Fin 11)).blk t).view.emb y : S4x1x1.Idx) = ix3 ⟨t.val / 16, batch_lt t⟩ 0 0 := by
    blk_ext [gidx t]
  rw [ei]
  have hacc := accR_at W c ⟨t.val / 16, batch_lt t⟩ (win0_10.xinj (grid0.coords t) y) 15 (by decide) (by rw [gN]; show 16 * (t.val / 16) + 15 < 64; omega)
  rw [if_pos rfl, tiles_sum] at hacc
  refine Eq.trans ?_ hacc
  have hv : t.val = 16 * (t.val / 16) + 15 := by omega
  show accR W c t.val t.isLt _ = accR W c (16 * (t.val / 16) + 15) _ _
  congr 1

end Cert.KernelIdeal.Hand

end
-- ==== Proof.ScaleArrays.lean ====
/-
  The scaling call's two result arrays after its run, over the extended reals: each image times its gate image.
-/
module

public import proofs.«01_k».proof.Proof.ScaleData
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL Idealize.SL.RA Idealize.SL.Sem
open Idealize.ShloMosaic.Pipeline (Dat)

variable {Ix : Type} [DecidableEq Ix] {U : Type} [URA U] {Lvl : Type} [Preorder Lvl]
variable (W : Dev nD → Valuation τ sig (Elt Ideal)) (c : Dev nD)

/-- The index maps: the batch and the block of channels. -/
theorem sidx : ∀ t : Fin cfg1.N, win1_0.index t = ![t.val / 8, t.val % 8, 0, 0] ∧ win1_1.index t = ![t.val / 8, t.val % 8, 0, 0]
    ∧ win1_2.index t = ![t.val / 8, 0, 0] ∧ win1_3.index t = ![t.val / 8, 0, 0]
    ∧ win1_4.index t = ![t.val / 8, t.val % 8, 0, 0] ∧ win1_5.index t = ![t.val / 8, t.val % 8, 0, 0] :=
  (by decide +kernel : ∀ t : Fin grid1.N, _)

theorem sbatch_lt (t : Fin cfg1.N) : t.val / 8 < 4 := by
  have h := t.isLt
  have : cfg1.N = 32 := by decide
  omega

theorem covers1_4 : win1_4.Covers := by decide +kernel
theorem covers1_5 : win1_5.Covers := by decide +kernel

/-- An image times a gate image, position by position, the same gate for every channel. -/
def scaled (z : FVec Ideal S4x256x180x180 .f32) (g : FVec Ideal S4x180x180 .f32) : FVec Ideal S4x256x180x180 .f32 :=
  fun i => z i * g (ix3 (i 0) (i 2) (i 3))

theorem pay1_1_at (x : FVec Ideal S1x32x180x180 .f32) (g : FVec Ideal S1x180x180 .f32) (k : Fin 32) (y z : Fin 180) :
    k1_pay1 (F := Ideal) x g (ix4 0 k y z) = x (ix4 0 k y z) * g (ix3 0 y z) := by
  pointwise [k1_pay1]
theorem pay1_2_at (x : FVec Ideal S1x32x180x180 .f32) (g : FVec Ideal S1x180x180 .f32) (k : Fin 32) (y z : Fin 180) :
    k1_pay2 (F := Ideal) x g (ix4 0 k y z) = x (ix4 0 k y z) * g (ix3 0 y z) := by
  pointwise [k1_pay2]

/-- The staged blocks at an index. -/
theorem imgC_at (t : Fin cfg1.N) (k : Fin 32) (y z : Fin 180) : imgC W c t (ix4 0 k y z)
    = (show FVec Ideal S4x256x180x180 .f32 from W c main_arg0) (ix4 ⟨t.val / 8, sbatch_lt t⟩ ⟨t.val % 8 * 32 + k.val, by omega⟩ y z) := by
  unfold imgC; blk_ext [sidx t]
theorem imgL_at (t : Fin cfg1.N) (k : Fin 32) (y z : Fin 180) : imgL W c t (ix4 0 k y z)
    = (show FVec Ideal S4x256x180x180 .f32 from W c main_arg1) (ix4 ⟨t.val / 8, sbatch_lt t⟩ ⟨t.val % 8 * 32 + k.val, by omega⟩ y z) := by
  unfold imgL; blk_ext [sidx t]
theorem gateC_at (t : Fin cfg1.N) (y z : Fin 180) : gateC W c t (ix3 0 y z)
    = (show FVec Ideal S4x180x180 .f32 from W c main_call0_v11) (ix3 ⟨t.val / 8, sbatch_lt t⟩ y z) := by
  unfold gateC; blk_ext [sidx t]
theorem gateL_at (t : Fin cfg1.N) (y z : Fin 180) : gateL W c t (ix3 0 y z)
    = (show FVec Ideal S4x180x180 .f32 from W c main_call0_v14) (ix3 ⟨t.val / 8, sbatch_lt t⟩ y z) := by
  unfold gateL; blk_ext [sidx t]

/-- Where an index of a result's block lies in the staged block. -/
theorem srow (t : Fin cfg1.N) (y : (win1_4.xblock (grid1.coords t)).Idx) : ∃ (k : Fin 32) (p q : Fin 180), win1_4.xinj (grid1.coords t) y = (ix4 0 k p q : S1x32x180x180.Idx)
    ∧ (y 0).val = 0 ∧ (y 1).val = k.val ∧ (y 2).val = p.val ∧ (y 3).val = q.val := by
  have h0 : (y 0).val < 1 := (y 0).isLt
  have h1 : (y 1).val < 32 := (y 1).isLt
  have h2 : (y 2).val < 180 := (y 2).isLt
  have h3 : (y 3).val < 180 := (y 3).isLt
  refine ⟨⟨(y 1).val, h1⟩, ⟨(y 2).val, h2⟩, ⟨(y 3).val, h3⟩, ?_, by omega, rfl, rfl, rfl⟩
  funext a
  apply Fin.ext
  fin_cases a
  · show (y 0).val = 0; omega
  · rfl
  · rfl
  · rfl

theorem final1_4 : (sDat (Ix := Ix) (U := U) (Lvl := Lvl) W c).arrAt (4 : Fin 6) cfg1.N = scaled (W c main_arg0) (W c main_call0_v11) := by
  refine (sDat (Ix := Ix) (U := U) (Lvl := Lvl) W c).arrAt_eq_of_covers (4 : Fin 6) _ covers1_4 fun t _ y => ?_
  obtain ⟨k, p, q, hy, h0, h1, h2, h3⟩ := srow t y
  refine (congrArg (k1_pay1 (F := Ideal) (imgC W c t) (gateC W c t)) hy).trans ?_
  rw [pay1_1_at, imgC_at, gateC_at]
  have ei : (((cfg1.win (4 : Fin 6)).blk t).view.emb y : S4x256x180x180.Idx) = ix4 ⟨t.val / 8, sbatch_lt t⟩ ⟨t.val % 8 * 32 + k.val, by omega⟩ p q := by
    blk_ext [sidx t]
  rw [ei]
  rfl

theorem final1_5 : (sDat (Ix := Ix) (U := U) (Lvl := Lvl) W c).arrAt (5 : Fin 6) cfg1.N = scaled (W c main_arg1) (W c main_call0_v14) := by
  refine (sDat (Ix := Ix) (U := U) (Lvl := Lvl) W c).arrAt_eq_of_covers (5 : Fin 6) _ covers1_5 fun t _ y => ?_
  obtain ⟨k, p, q, hy, h0, h1, h2, h3⟩ := srow t y
  refine (congrArg (k1_pay2 (F := Ideal) (imgL W c t) (gateL W c t)) hy).trans ?_
  rw [pay1_2_at, imgL_at, gateL_at]
  have ei : (((cfg1.win (5 : Fin 6)).blk t).view.emb y : S4x256x180x180.Idx) = ix4 ⟨t.val / 8, sbatch_lt t⟩ ⟨t.val % 8 * 32 + k.val, by omega⟩ p q := by
    blk_ext [sidx t]
  rw [ei]
  rfl

end Cert.KernelIdeal.Hand

end
-- ==== Proof.RefStages.lean ====
/-
  The reference over the extended reals in stages, each a function of the stage before, and its six results as these stages.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- An image's tokens: its positions in order, each with its channels. -/
def toks (x : FVec Ideal S4x256x180x180 .f32) : FVec Ideal S4x32400x256 .f32 :=
  shapeCast _ (transpose S4x180x180x256 [0, 2, 3, 1] x transposes_S4x256x180x180_S4x180x180x256_0_2_3_1) shapeCasts_S4x180x180x256_S4x32400x256

/-- The hidden layer before its activation. -/
def hidV (y0 y1 : FVec Ideal S4x32400x256 .f32) (w1 : FVec Ideal S512x512 .f32) (b1 : FVec Ideal S512 .f32) : FVec Ideal S4x32400x512 .f32 :=
  addf (Host.dotGeneral dot_S4x32400x512_S512x512_S4x32400x512_2_0_01_1_n_n none (concatenate S4x32400x512 2 [⟨S4x32400x256, y0⟩, ⟨S4x32400x256, y1⟩] concatenates_S4x32400x256_S4x32400x256_S4x32400x512_d2) w1)
    (broadcastInDim S4x32400x512 ![0, 1, 2] bcast_S1x1x512_S4x32400x512_0_1_2 (broadcastInDim S1x1x512 ![2] bcast_S512_S1x1x512_2 b1))

/-- The activation. -/
def actV (h : FVec Ideal S4x32400x512 .f32) : FVec Ideal S4x32400x512 .f32 :=
  mulf h (Host.divf (broadcastInDim S4x32400x512 ![] bcast_S_S4x32400x512 (constant S_ .f32 0x3F800000#32))
    (addf (broadcastInDim S4x32400x512 ![] bcast_S_S4x32400x512 (constant S_ .f32 0x3F800000#32)) (Host.exp (Host.negf h))))

/-- The logits. -/
def logV (a : FVec Ideal S4x32400x512 .f32) (w2 : FVec Ideal S512x3 .f32) (b2 : FVec Ideal S3 .f32) : FVec Ideal S4x32400x3 .f32 :=
  addf (Host.dotGeneral dot_S4x32400x512_S512x3_S4x32400x3_2_0_01_1_n_n none a w2)
    (broadcastInDim S4x32400x3 ![0, 1, 2] bcast_S1x1x3_S4x32400x3_0_1_2 (broadcastInDim S1x1x3 ![2] bcast_S3_S1x1x3_2 b2))

/-- Their exponentials, the largest taken off first. -/
def expV (l : FVec Ideal S4x32400x3 .f32) : FVec Ideal S4x32400x3 .f32 :=
  Host.exp (subf l (broadcastInDim S4x32400x3 ![0, 1, 2] bcast_S4x32400x1_S4x32400x3_0_1_2 (broadcastInDim S4x32400x1 ![0, 1] bcast_S4x32400_S4x32400x1_0_1
    (maximumf (broadcastInDim S4x32400 ![] bcast_S_S4x32400 (constant S_ .f32 0xFF800000#32)) (Host.reduce FloatOps.maximumf l (constant S_ .f32 0xFF800000#32) reducesTo_S4x32400x3_S4x32400_d2 h_S_)))))

/-- The exponentials over their sum. -/
def normV (x : FVec Ideal S4x32400x3 .f32) : FVec Ideal S4x32400x3 .f32 :=
  Host.divf x (broadcastInDim S4x32400x3 ![0, 1, 2] bcast_S4x32400x1_S4x32400x3_0_1_2 (broadcastInDim S4x32400x1 ![0, 1] bcast_S4x32400_S4x32400x1_0_1
    (Host.reduceAdd x (constant S_ .f32 0x00000000#32) reducesTo_S4x32400x3_S4x32400_d2 h_S_)))

/-- The probabilities. -/
def probsV (y0 y1 : FVec Ideal S4x32400x256 .f32) (w1 : FVec Ideal S512x512 .f32) (b1 : FVec Ideal S512 .f32) (w2 : FVec Ideal S512x3 .f32) (b2 : FVec Ideal S3 .f32) : FVec Ideal S4x32400x3 .f32 :=
  normV (expV (logV (actV (hidV y0 y1 w1 b1)) w2 b2))

/-- The best expert of every token. -/
def bestV (p : FVec Ideal S4x32400x3 .f32) : IVec S4x32400x1 32 :=
  (Host.topK S4x32400x1 2 (FloatOps.cmpfTotal (φ := .f32) .gt) p sliceFits_S4x32400x3_S4x32400x1).2

/-- The one-hot vector of an index. -/
def oneV (i : IVec S4x32400x1 32) : FVec Ideal S4x32400x3 .f32 :=
  Host.reduceAdd (uitofp .f32 (cmpi .eq (broadcastInDim S4x32400x1x3 ![0, 1, 2, 3] bcast_S4x32400x1x1_S4x32400x1x3_0_1_2_3 (broadcastInDim S4x32400x1x1 ![0, 1, 2] bcast_S4x32400x1_S4x32400x1x1_0_1_2 i))
    (broadcastInDim S4x32400x1x3 ![0, 1, 2, 3] bcast_S1x1x1x3_S4x32400x1x3_0_1_2_3 (iotaInDim S1x1x1x3 32 3)))) (constant S_ .f32 0x00000000#32) reducesTo_S4x32400x1x3_S4x32400x3_d2 h_S_

/-- The gates. -/
def gateV (p : FVec Ideal S4x32400x3 .f32) : FVec Ideal S4x32400x3 .f32 := mulf p (oneV (bestV p))

/-- The first and the second gate alone. -/
def gate0 (g : FVec Ideal S4x32400x3 .f32) : FVec Ideal S4x32400x1 .f32 := extractStridedSlice S4x32400x1 ![0, 0, 0] g slices_S4x32400x3_S4x32400x1_0_0_0
def gate1 (g : FVec Ideal S4x32400x3 .f32) : FVec Ideal S4x32400x1 .f32 := extractStridedSlice S4x32400x1 ![0, 0, 1] g slices_S4x32400x3_S4x32400x1_0_0_1

/-- The keep mask. -/
def keepV (g : FVec Ideal S4x32400x3 .f32) : FVec Ideal S4x32400x1 .f32 :=
  uitofp .f32 (cmpf .ogt (addf (gate0 g) (gate1 g)) (broadcastInDim S4x32400x1 ![] bcast_S_S4x32400x1 (constant S_ .f32 0x00000000#32)))

/-- The tokens scaled by a gate, as an image. -/
def zhatV (y : FVec Ideal S4x32400x256 .f32) (g : FVec Ideal S4x32400x1 .f32) : FVec Ideal S4x256x180x180 .f32 :=
  transpose S4x256x180x180 [0, 3, 1, 2] (shapeCast S4x180x180x256 (mulf y (broadcastInDim S4x32400x256 ![0, 1, 2] bcast_S4x32400x1_S4x32400x256_0_1_2 g)) shapeCasts_S4x32400x256_S4x180x180x256) transposes_S4x180x180x256_S4x256x180x180_0_3_1_2

/-- The mask as an image. -/
def maskV (k : FVec Ideal S4x32400x1 .f32) : FVec Ideal S4x1x180x180 .f32 :=
  transpose S4x1x180x180 [0, 3, 1, 2] (shapeCast S4x180x180x1 k shapeCasts_S4x32400x1_S4x180x180x1) transposes_S4x180x180x1_S4x1x180x180_0_3_1_2

/-- The mask's mean. -/
def meanV (k : FVec Ideal S4x32400x1 .f32) : FVec Ideal S4x1 .f32 :=
  Host.divf (Host.reduceAdd k (constant S_ .f32 0x00000000#32) reducesTo_S4x32400x1_S4x1_d1 h_S_) (broadcastInDim S4x1 ![] bcast_S_S4x1 (constant S_ .f32 0x46FD2000#32))

variable (m : (ℓ : Loc nD τ sig) → Buf (Elt Ideal) ℓ) (c : Dev nD)

/-- The probabilities of the memory's arguments. -/
def probsM : FVec Ideal S4x32400x3 .f32 :=
  probsV (toks (m ((c.tc : Thread nD τ).loc main_arg0))) (toks (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))

set_option maxHeartbeats 2000000 in
theorem out3 : Value.res_main_v24 m c = probsM m c := by
  unfold Value.res_main_v24 probsM probsV normV expV logV actV hidV toks
  rfl

set_option maxHeartbeats 2000000 in
theorem out4 : Value.res_main_v27 m c = gateV (probsM m c) := by
  unfold Value.res_main_v27 gateV oneV bestV probsM probsV normV expV logV actV hidV toks
  rfl

set_option maxHeartbeats 2000000 in
theorem out2 : Value.res_main_v43 m c = maskV (keepV (gateV (probsM m c))) := by
  unfold Value.res_main_v43 maskV keepV gate0 gate1 gateV oneV bestV probsM probsV normV expV logV actV hidV toks
  rfl

set_option maxHeartbeats 2000000 in
theorem out5 : Value.res_main_v46 m c = meanV (keepV (gateV (probsM m c))) := by
  unfold Value.res_main_v46 meanV keepV gate0 gate1 gateV oneV bestV probsM probsV normV expV logV actV hidV toks
  rfl

set_option maxHeartbeats 2000000 in
theorem out0 : Value.res_main_v39 m c = zhatV (toks (m ((c.tc : Thread nD τ).loc main_arg0))) (gate0 (gateV (probsM m c))) := by
  unfold Value.res_main_v39 zhatV gate0 gateV oneV bestV probsM probsV normV expV logV actV hidV toks
  rfl

set_option maxHeartbeats 2000000 in
theorem out1 : Value.res_main_v41 m c = zhatV (toks (m ((c.tc : Thread nD τ).loc main_arg1))) (gate1 (gateV (probsM m c))) := by
  unfold Value.res_main_v41 zhatV gate1 gateV oneV bestV probsM probsV normV expV logV actV hidV toks
  rfl

end Cert.ReferenceIdeal.Hand

end
-- ==== Proof.RefRows.lean ====
/-
  The reference's stages at an index, as the mathematics of one token.
-/
module

public import proofs.«01_k».proof.Proof.RefStages
public import proofs.«01_k».proof.Proof.Rows

@[expose] public section

set_option maxRecDepth 16384

noncomputable section

namespace Cert.ReferenceIdeal.Hand

open Cert.ReferenceIdeal Cert.ReferenceIdeal.Gen
open Idealize.ShloMosaic Idealize.ShloMosaic.TcCoe
open Cert.Proof

variable (y0 y1 : FVec Ideal S4x32400x256 .f32) (w1 : FVec Ideal S512x512 .f32) (b1 : FVec Ideal S512 .f32) (w2 : FVec Ideal S512x3 .f32) (b2 : FVec Ideal S3 .f32)

/-- The hidden layer at a token. -/
theorem hidV_at (b : Fin 4) (n : Fin 32400) (j : Fin 512) : hidV y0 y1 w1 b1 (ix3 b n j)
    = Row.hid (fun k => y0 (ix3 b n k)) (fun k => y1 (ix3 b n k)) (fun k j => w1 (ix2 (k.castLE (by decide)) j)) (fun k j => w1 (ix2 ⟨256 + k.val, by omega⟩ j)) (fun j => b1 (ix1 j)) j := by
  pointwise [hidV]
  rfl

theorem actV_at (h : FVec Ideal S4x32400x512 .f32) (b : Fin 4) (n : Fin 32400) (j : Fin 512) : actV h (ix3 b n j) = h (ix3 b n j) * Ideal.logistic (h (ix3 b n j)) := by
  pointwise [actV]
  rfl

theorem logV_at (h : FVec Ideal S4x32400x512 .f32) (b : Fin 4) (n : Fin 32400) (e : Fin 3) : logV (actV h) w2 b2 (ix3 b n e)
    = Row.logit (fun j => h (ix3 b n j)) (fun j e => w2 (ix2 j e)) (fun e => b2 (ix1 e)) e := by
  pointwise [logV, actV]
  rfl

theorem soft_at (l : FVec Ideal S4x32400x3 .f32) (b : Fin 4) (n : Fin 32400) (e : Fin 3) : normV (expV l) (ix3 b n e)
    = Row.soft (fun e => l (ix3 b n e)) e := by
  pointwise [normV, expV]
  rw [Row.max_top]
  rfl

/-- The probabilities at a token. -/
theorem probsV_at (b : Fin 4) (n : Fin 32400) (e : Fin 3) : probsV y0 y1 w1 b1 w2 b2 (ix3 b n e)
    = Row.soft (Row.logit (Row.hid (fun k => y0 (ix3 b n k)) (fun k => y1 (ix3 b n k)) (fun k j => w1 (ix2 (k.castLE (by decide)) j)) (fun k j => w1 (ix2 ⟨256 + k.val, by omega⟩ j)) (fun j => b1 (ix1 j)))
        (fun j e => w2 (ix2 j e)) (fun e => b2 (ix1 e))) e := by
  unfold probsV
  rw [soft_at, funext fun e => logV_at w2 b2 _ b n e, funext fun j => hidV_at y0 y1 w1 b1 b n j]

/-- The experts of every token in descending order of probability, as words. -/
def rankV (p : FVec Ideal S4x32400x3 .f32) : IVec S4x32400x3 32 := fun i =>
  iotaInDim S4x32400x3 32 2 (i.along 2 (sortedFrom (fun k k' => Ideal.cmpTotal .gt (p (i.along 2 k)) (p (i.along 2 k')) == 1#1) (i 2)))

/-- The best expert of a token. -/
theorem bestV_at (p : FVec Ideal S4x32400x3 .f32) (b : Fin 4) (n : Fin 32400) : bestV p (ix3 b n 0) = BitVec.ofNat 32 (Row.best fun e => p (ix3 b n e)).val := by
  rw [← Row.sortedFrom_best]
  have hf : ∀ k : Fin 3, Shape.Idx.along (s := S4x32400x3) (ix3 b n 0) 2 k = ix3 b n k := fun k => by
    funext a; fin_cases a <;> rfl
  have he : (fun k k' : Fin 3 => Ideal.cmpTotal .gt (p (Shape.Idx.along (s := S4x32400x3) (ix3 b n 0) 2 k)) (p (Shape.Idx.along (s := S4x32400x3) (ix3 b n 0) 2 k')) == 1#1)
      = fun k k' => Ideal.cmpTotal .gt (p (ix3 b n k)) (p (ix3 b n k')) == 1#1 := by
    funext k k'; rw [hf, hf]
  rw [← he]
  have hr : bestV p = extractStridedSlice S4x32400x1 (fun _ => 0) (rankV p) sliceFits_S4x32400x3_S4x32400x1 := rfl
  rw [hr]
  pointwise []
  rfl

theorem gateV_at (p : FVec Ideal S4x32400x3 .f32) (b : Fin 4) (n : Fin 32400) (e : Fin 3) : gateV p (ix3 b n e)
    = Row.gate (fun e => p (ix3 b n e)) e := by
  pointwise [gateV, oneV]
  rw [bestV_at]
  unfold Row.gate
  generalize Row.best (fun e => p (ix3 b n e)) = q
  have hq : IntOp.cmpi .eq (BitVec.ofNat 32 q.val) (BitVec.ofNat 32 e.val) = BitVec.ofBool (decide (q = e)) := by
    revert q e; decide
  rw [hq, Fin.sum_univ_one, Row.uitofp_ofBool]
  by_cases h : q = e
  · rw [if_pos h, if_pos h, mul_one]
  · rw [if_neg h, if_neg h, mul_zero]

theorem keepV_at (p : FVec Ideal S4x32400x3 .f32) (b : Fin 4) (n : Fin 32400) : keepV (gateV p) (ix3 b n 0)
    = Row.keep (fun e => p (ix3 b n e)) := by
  pointwise [keepV, gate0, gate1]
  rw [gateV_at, gateV_at, Row.uitofp_ofBool]
  rfl

/-- The word of 32400. -/
theorem word_hw : Ideal.ofBits .f32 0x46FD2000#32 = ((32400 : ℝ) : EReal) := by
  simp [Ideal.ofBits, Ideal.ieee]
  rw [← EReal.coe_mul]
  norm_num

theorem meanV_at (k : FVec Ideal S4x32400x1 .f32) (b : Fin 4) : meanV k (ix2 b 0)
    = (∑ n : Fin 32400, k (ix3 b n 0)) * ((1 / 32400 : ℝ) : EReal) := by
  pointwise [meanV]
  rw [word_hw, Ideal.div_coe (by norm_num)]

theorem maskV_at (k : FVec Ideal S4x32400x1 .f32) (b : Fin 4) (y x : Fin 180) : maskV k (ix4 b 0 y x)
    = k (ix3 b ⟨y.val * 180 + x.val, by omega⟩ 0) := by
  pointwise [maskV]

theorem toks_at (x : FVec Ideal S4x256x180x180 .f32) (b : Fin 4) (n : Fin 32400) (k : Fin 256) : toks x (ix3 b n k)
    = x (ix4 b k ⟨n.val / 180, by omega⟩ ⟨n.val % 180, by omega⟩) := by
  pointwise [toks]

theorem zhatV_at (z : FVec Ideal S4x256x180x180 .f32) (g : FVec Ideal S4x32400x1 .f32) (b : Fin 4) (k : Fin 256) (y x : Fin 180) : zhatV (toks z) g (ix4 b k y x)
    = z (ix4 b k y x) * g (ix3 b ⟨y.val * 180 + x.val, by omega⟩ 0) := by
  pointwise [zhatV, toks]

theorem gate0_at (g : FVec Ideal S4x32400x3 .f32) (b : Fin 4) (n : Fin 32400) : gate0 g (ix3 b n 0) = g (ix3 b n 0) := by pointwise [gate0]
theorem gate1_at (g : FVec Ideal S4x32400x3 .f32) (b : Fin 4) (n : Fin 32400) : gate1 g (ix3 b n 0) = g (ix3 b n 1) := by pointwise [gate1]

end Cert.ReferenceIdeal.Hand

end
-- ==== Proof.HostLinks.lean ====
/-
  What the kernel's host operations make of the buffers, over the extended reals: the arrays the gating call reads, the gate
  images the scaling call reads, and the six results.
-/
module

public import proofs.«01_k».proof.Proof.GateArrays
public import proofs.«01_k».proof.Proof.ScaleArrays
public import proofs.«01_k».proof.Proof.Run
public import proofs.«01_k».proof.Proof.RefRows
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Cert.Proof
open Cert.ReferenceIdeal.Hand (toks probsV gateV keepV gate0 gate1 zhatV maskV meanV)

variable (m : (ℓ : Loc nD τ sig) → Buf (Elt Ideal) ℓ) (o : Outs (F := Ideal)) (c : Dev nD)

/-- The arguments. -/
def a0 : FVec Ideal S4x256x180x180 .f32 := m ((c.tc : Thread nD τ).loc main_arg0)
def a1 : FVec Ideal S4x256x180x180 .f32 := m ((c.tc : Thread nD τ).loc main_arg1)
def a2 : FVec Ideal S512x512 .f32 := m ((c.tc : Thread nD τ).loc main_arg2)
def a3 : FVec Ideal S512 .f32 := m ((c.tc : Thread nD τ).loc main_arg3)
def a4 : FVec Ideal S512x3 .f32 := m ((c.tc : Thread nD τ).loc main_arg4)
def a5 : FVec Ideal S3 .f32 := m ((c.tc : Thread nD τ).loc main_arg5)

theorem V1_v1 : V1 m c main_call0_v1 = toks (a0 m c) := by
  unfold V1
  after_results
  rfl
theorem V1_v3 : V1 m c main_call0_v3 = toks (a1 m c) := by
  unfold V1
  after_results
  rfl
theorem V1_v4 : V1 m c main_call0_v4 = extractStridedSlice S256x512 ![0, 0] (a2 m c) slices_S512x512_S256x512_0_0 := by
  unfold V1
  after_results
  rfl
theorem V1_v5 : V1 m c main_call0_v5 = extractStridedSlice S256x512 ![256, 0] (a2 m c) slices_S512x512_S256x512_256_0 := by
  unfold V1
  after_results
  rfl
theorem V1_v6 : V1 m c main_call0_v6 = shapeCast S1x512 (a3 m c) shapeCasts_S512_S1x512 := by
  unfold V1
  after_results
  rfl
theorem V1_v7 : V1 m c main_call0_v7 = shapeCast S1x3 (a5 m c) shapeCasts_S3_S1x3 := by
  unfold V1
  after_results
  rfl
theorem V1_arg4 : V1 m c main_arg4 = a4 m c := V1_of m c main_arg4 (by decide)

/-- The gate images. -/
def gimg0 (g : FVec Ideal S4x32400x3 .f32) : FVec Ideal S4x180x180 .f32 :=
  shapeCast S4x180x180 (shapeCast S4x32400 (extractStridedSlice S4x32400x1 ![0, 0, 0] g slices_S4x32400x3_S4x32400x1_0_0_0) shapeCasts_S4x32400x1_S4x32400) shapeCasts_S4x32400_S4x180x180
def gimg1 (g : FVec Ideal S4x32400x3 .f32) : FVec Ideal S4x180x180 .f32 :=
  shapeCast S4x180x180 (shapeCast S4x32400 (extractStridedSlice S4x32400x1 ![0, 0, 1] g slices_S4x32400x3_S4x32400x1_0_0_1) shapeCasts_S4x32400x1_S4x32400) shapeCasts_S4x32400_S4x180x180

theorem gimg0_at (g : FVec Ideal S4x32400x3 .f32) (b : Fin 4) (y x : Fin 180) : gimg0 g (ix3 b y x) = g (ix3 b ⟨y.val * 180 + x.val, by omega⟩ 0) := by
  pointwise [gimg0]
theorem gimg1_at (g : FVec Ideal S4x32400x3 .f32) (b : Fin 4) (y x : Fin 180) : gimg1 g (ix3 b y x) = g (ix3 b ⟨y.val * 180 + x.val, by omega⟩ 1) := by
  pointwise [gimg1]

theorem V2_v0_3 : V2 m o c main_v0_3 = o 2 main_v0_3 c := by
  unfold V2; rw [Function.update_of_ne (by decide), Function.update_of_ne (by decide), Function.update_of_ne (by decide), Function.update_self]
theorem V2_v0_4 : V2 m o c main_v0_4 = o 2 main_v0_4 c := by
  unfold V2; rw [Function.update_of_ne (by decide), Function.update_of_ne (by decide), Function.update_self]
theorem V2_v8_2 : V2 m o c main_call0_v8_2 = o 2 main_call0_v8_2 c := by
  unfold V2; rw [Function.update_of_ne (by decide), Function.update_self]
theorem V2_v8_3 : V2 m o c main_call0_v8_3 = o 2 main_call0_v8_3 c := by
  unfold V2; rw [Function.update_self]

theorem V3_v11 : V3 m o c main_call0_v11 = gimg0 (o 2 main_v0_4 c) := by
  rw [← V2_v0_4 m o c]
  unfold V3
  generalize V2 m o c = V
  after_results
  rfl
theorem V3_v14 : V3 m o c main_call0_v14 = gimg1 (o 2 main_v0_4 c) := by
  rw [← V2_v0_4 m o c]
  unfold V3
  generalize V2 m o c = V
  after_results
  rfl
theorem V3_arg0 : V3 m o c main_arg0 = a0 m c :=
  (V3_of m o c main_arg0 (by decide)).trans <| (V2_of m o c main_arg0 (by decide)).trans <| (V1_of m c main_arg0 (by decide)).trans rfl
theorem V3_arg1 : V3 m o c main_arg1 = a1 m c :=
  (V3_of m o c main_arg1 (by decide)).trans <| (V2_of m o c main_arg1 (by decide)).trans <| (V1_of m c main_arg1 (by decide)).trans rfl

/-! ## The results after the run -/

theorem V5_v0_0 : V5 m (full m o) c main_v0_0 = scaled (a0 m c) (gimg0 (o 2 main_v0_4 c)) := by
  refine (V5_of m _ c main_v0_0 (by decide)).trans ((V4_full_0 m o c).trans ?_)
  rw [final1_4, V3_arg0, V3_v11]
theorem V5_v0_1 : V5 m (full m o) c main_v0_1 = scaled (a1 m c) (gimg1 (o 2 main_v0_4 c)) := by
  refine (V5_of m _ c main_v0_1 (by decide)).trans ((V4_full_1 m o c).trans ?_)
  rw [final1_5, V3_arg1, V3_v14]
theorem V4_two (r : Ref sig .tc) (h4 : r ∉ ([main_v0_0, main_v0_1] : List (Ref sig .tc))) (h3 : r ∉ hostOps1_W) : V4 m (full m o) c r = V2 m o c r :=
  (V4_of m _ c r h4).trans ((congrFun (V3_full m o c) r).trans (V3_of m o c r h3))
theorem V5_v0_3 : V5 m (full m o) c main_v0_3 = o 2 main_v0_3 c :=
  (V5_of m _ c main_v0_3 (by decide)).trans ((V4_two m o c main_v0_3 (by decide) (by decide)).trans (V2_v0_3 m o c))
theorem V5_v0_4 : V5 m (full m o) c main_v0_4 = o 2 main_v0_4 c :=
  (V5_of m _ c main_v0_4 (by decide)).trans ((V4_two m o c main_v0_4 (by decide) (by decide)).trans (V2_v0_4 m o c))
theorem V5_v0_2 : V5 m (full m o) c main_v0_2 = shapeCast S4x1x180x180 (show FVec Ideal S4x32400x1 .f32 from o 2 main_call0_v8_2 c) shapeCasts_S4x32400x1_S4x1x180x180 := by
  rw [← V2_v8_2 m o c, ← V4_two m o c main_call0_v8_2 (by decide) (by decide)]
  unfold V5
  generalize V4 m (full m o) c = V
  after_results
  rfl
theorem V5_v0_5 : V5 m (full m o) c main_v0_5 = shapeCast S4x1 (show FVec Ideal S4x1x1 .f32 from o 2 main_call0_v8_3 c) shapeCasts_S4x1x1_S4x1 := by
  rw [← V2_v8_3 m o c, ← V4_two m o c main_call0_v8_3 (by decide) (by decide)]
  unfold V5
  generalize V4 m (full m o) c = V
  after_results
  rfl

end Cert.KernelIdeal.Hand

end
-- ==== Proof.Algebraic.lean ====
/-
  Over the extended reals the kernel's six results are the reference's six, of any arguments.
-/
module

public import proofs.«01_k».proof.Defs
public import proofs.«01_k».proof.Proof.HostLinks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Cert.Proof
open Cert.ReferenceIdeal.Hand (toks probsV gateV keepV gate0 gate1 zhatV maskV meanV probsV_at gateV_at keepV_at meanV_at maskV_at zhatV_at gate0_at gate1_at)

variable (m : (ℓ : Loc nD τ sig) → Buf (Elt Ideal) ℓ) (c : Dev nD)

/-- The reference's probabilities of the kernel's arguments. -/
def probs : FVec Ideal S4x32400x3 .f32 := probsV (toks (a0 m c)) (toks (a1 m c)) (a2 m c) (a3 m c) (a4 m c) (a5 m c)

/-- The kernel's probabilities of a token are the reference's: the product over both halves of the channels is the sum of the
    products over each. -/
theorem tokRow_probs (b : Fin 4) (n : Fin 32400) : tokRow (V1 m) c b n = fun e => probs m c (ix3 b n e) := by
  funext e
  refine Eq.trans ?_ (probsV_at (toks (a0 m c)) (toks (a1 m c)) (a2 m c) (a3 m c) (a4 m c) (a5 m c) b n e).symm
  unfold tokRow
  rw [V1_v1, V1_v3, V1_v4, V1_v5, V1_v6, V1_v7, V1_arg4]
  have h4 : ∀ (k : Fin 256) (j : Fin 512), extractStridedSlice S256x512 ![0, 0] (a2 m c) slices_S512x512_S256x512_0_0 (ix2 k j) = a2 m c (ix2 (k.castLE (by decide)) j) := fun k j => by
    pointwise []
    rfl
  have h5 : ∀ (k : Fin 256) (j : Fin 512), extractStridedSlice S256x512 ![256, 0] (a2 m c) slices_S512x512_S256x512_256_0 (ix2 k j) = a2 m c (ix2 ⟨256 + k.val, by omega⟩ j) := fun k j => by
    pointwise []
  have h6 : ∀ j : Fin 512, shapeCast S1x512 (a3 m c) shapeCasts_S512_S1x512 (ix2 0 j) = a3 m c (ix1 j) := fun j => by
    pointwise []
  have h7 : ∀ e : Fin 3, shapeCast S1x3 (a5 m c) shapeCasts_S3_S1x3 (ix2 0 e) = a5 m c (ix1 e) := fun e => by
    pointwise []
  simp only [h4, h5, h6, h7]

theorem arrP_eq : arrP (V1 m) c = probs m c := by
  funext i
  idx_vars i
  exact congrFun (tokRow_probs m c _ _) _
theorem arrG_eq : arrG (V1 m) c = gateV (probs m c) := by
  funext i
  idx_vars i
  refine Eq.trans ?_ (gateV_at (probs m c) _ _ _).symm
  exact congrArg (fun p => Row.gate p _) (tokRow_probs m c _ _)
theorem arrK_at (b : Fin 4) (n : Fin 32400) : arrK (V1 m) c (ix3 b n 0) = keepV (gateV (probs m c)) (ix3 b n 0) :=
  (congrArg Row.keep (tokRow_probs m c b n)).trans (keepV_at (probs m c) b n).symm

theorem mask_eq : shapeCast S4x1x180x180 (arrK (V1 m) c) shapeCasts_S4x32400x1_S4x1x180x180 = maskV (keepV (gateV (probs m c))) := by
  have h : ∀ (b : Fin 4) (y x : Fin 180), shapeCast S4x1x180x180 (arrK (V1 m) c) shapeCasts_S4x32400x1_S4x1x180x180 (ix4 b 0 y x) = maskV (keepV (gateV (probs m c))) (ix4 b 0 y x) := fun b y x => by
    rw [maskV_at, ← arrK_at]
    generalize arrK (V1 m) c = K
    pointwise []
  generalize shapeCast S4x1x180x180 (arrK (V1 m) c) shapeCasts_S4x32400x1_S4x1x180x180 = X at h ⊢
  generalize maskV (keepV (gateV (probs m c))) = Y at h ⊢
  funext i
  have hi : i = ix4 (i 0) 0 (i 2) (i 3) := by
    funext a
    fin_cases a
    · rfl
    · exact Fin.ext (by have h1 : (i 1).val < 1 := (i 1).isLt; show (i 1).val = 0; omega)
    · rfl
    · rfl
  rw [hi]
  exact h _ _ _

/-- The mean of a mask, as the two programs shape it. -/
theorem mean_reshape (K : FVec Ideal S4x32400x1 .f32) (R : FVec Ideal S4x1x1 .f32) (hR : ∀ b : Fin 4, R (ix3 b 0 0) = (∑ n : Fin 32400, K (ix3 b n 0)) * ((1 / 32400 : ℝ) : EReal)) :
    shapeCast S4x1 R shapeCasts_S4x1x1_S4x1 = meanV K := by
  have h : ∀ b : Fin 4, shapeCast S4x1 R shapeCasts_S4x1x1_S4x1 (ix2 b 0) = meanV K (ix2 b 0) := fun b => by
    refine Eq.trans ?_ ((hR b).trans (meanV_at K b).symm)
    clear hR
    pointwise []
  generalize shapeCast S4x1 R shapeCasts_S4x1x1_S4x1 = X at h ⊢
  generalize meanV K = Y at h ⊢
  funext i
  have hi : i = ix2 (i 0) 0 := by
    funext a
    fin_cases a
    · rfl
    · exact Fin.ext (by have h1 : (i 1).val < 1 := (i 1).isLt; show (i 1).val = 0; omega)
  rw [hi]
  exact h _

theorem mean_eq : shapeCast S4x1 (arrR (V1 m) c) shapeCasts_S4x1x1_S4x1 = meanV (keepV (gateV (probs m c))) := by
  refine mean_reshape _ _ fun b => ?_
  rw [← funext fun n => arrK_at m c b n]
  rfl

theorem zhat0_eq : scaled (a0 m c) (gimg0 (gateV (probs m c))) = zhatV (toks (a0 m c)) (gate0 (gateV (probs m c))) := by
  have h : ∀ (b : Fin 4) (k : Fin 256) (y x : Fin 180), scaled (a0 m c) (gimg0 (gateV (probs m c))) (ix4 b k y x) = zhatV (toks (a0 m c)) (gate0 (gateV (probs m c))) (ix4 b k y x) := fun b k y x => by
    rw [zhatV_at, gate0_at]
    exact congrArg (a0 m c (ix4 b k y x) * ·) (gimg0_at (gateV (probs m c)) b y x)
  funext i
  idx_vars i
  exact h _ _ _ _
theorem zhat1_eq : scaled (a1 m c) (gimg1 (gateV (probs m c))) = zhatV (toks (a1 m c)) (gate1 (gateV (probs m c))) := by
  have h : ∀ (b : Fin 4) (k : Fin 256) (y x : Fin 180), scaled (a1 m c) (gimg1 (gateV (probs m c))) (ix4 b k y x) = zhatV (toks (a1 m c)) (gate1 (gateV (probs m c))) (ix4 b k y x) := fun b k y x => by
    rw [zhatV_at, gate1_at]
    exact congrArg (a1 m c (ix4 b k y x) * ·) (gimg1_at (gateV (probs m c)) b y x)
  funext i
  idx_vars i
  exact h _ _ _ _

/-- The kernel's run: each result is the reference's function of the arguments, which are left as they were. -/
theorem run_values (ρ : Dev nD → PrngReg) : θ_run (defs (F := Ideal)) (onTc (τ := τ) (main (F := Ideal))) ⟨m, fun _ => 0, ρ⟩ fun r => ∀ c : Dev nD,
    r.2.mem ((c.tc : Thread nD τ).loc main_v0_0) = zhatV (toks (a0 m c)) (gate0 (gateV (probs m c)))
    ∧ r.2.mem ((c.tc : Thread nD τ).loc main_v0_1) = zhatV (toks (a1 m c)) (gate1 (gateV (probs m c)))
    ∧ r.2.mem ((c.tc : Thread nD τ).loc main_v0_2) = maskV (keepV (gateV (probs m c)))
    ∧ r.2.mem ((c.tc : Thread nD τ).loc main_v0_3) = probs m c
    ∧ r.2.mem ((c.tc : Thread nD τ).loc main_v0_4) = gateV (probs m c)
    ∧ r.2.mem ((c.tc : Thread nD τ).loc main_v0_5) = meanV (keepV (gateV (probs m c)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (run_main m (fun _ => false) (fun _ _ => rfl) (fun c => gate_obligation_exact (V1 m) c (rowsOnly (V1 m) c) ()) ρ)
  obtain ⟨o, ⟨h7, h8, h9, h10⟩, hb⟩ := h.1 c
  have e3 : o 2 main_v0_3 c = probs m c := ((h7 rfl).trans (final7 (V1 m) c)).trans (arrP_eq m c)
  have e4 : o 2 main_v0_4 c = gateV (probs m c) := ((h8 rfl).trans (final8 (V1 m) c)).trans (arrG_eq m c)
  have e2 : o 2 main_call0_v8_2 c = arrK (V1 m) c := (h9 rfl).trans (final9 (V1 m) c)
  have e5 : o 2 main_call0_v8_3 c = arrR (V1 m) c := (h10 rfl).trans (final10 (V1 m) c)
  have hm : ∀ b : Ref sig .tc, Proc.devRef .tc b ∈ Pipeline.ucRefs τ sig → r.2.mem ((c.tc : Thread nD τ).loc b) = V5 m (full m o) c b := fun b hmem => hb _ hmem
  refine ⟨(hm main_v0_0 (Finset.mem_filter.mpr ⟨StableHlo.devRef_mem_tcRefs main_v0_0, by decide⟩)).trans ?_,
    (hm main_v0_1 (Finset.mem_filter.mpr ⟨StableHlo.devRef_mem_tcRefs main_v0_1, by decide⟩)).trans ?_,
    (hm main_v0_2 (Finset.mem_filter.mpr ⟨StableHlo.devRef_mem_tcRefs main_v0_2, by decide⟩)).trans ?_,
    (hm main_v0_3 (Finset.mem_filter.mpr ⟨StableHlo.devRef_mem_tcRefs main_v0_3, by decide⟩)).trans ((V5_v0_3 m o c).trans e3),
    (hm main_v0_4 (Finset.mem_filter.mpr ⟨StableHlo.devRef_mem_tcRefs main_v0_4, by decide⟩)).trans ((V5_v0_4 m o c).trans e4),
    (hm main_v0_5 (Finset.mem_filter.mpr ⟨StableHlo.devRef_mem_tcRefs main_v0_5, by decide⟩)).trans ?_,
    (hm main_arg0 (Finset.mem_filter.mpr ⟨StableHlo.devRef_mem_tcRefs main_arg0, by decide⟩)).trans (V5_main_arg0 m _ c),
    (hm main_arg1 (Finset.mem_filter.mpr ⟨StableHlo.devRef_mem_tcRefs main_arg1, by decide⟩)).trans (V5_main_arg1 m _ c),
    (hm main_arg2 (Finset.mem_filter.mpr ⟨StableHlo.devRef_mem_tcRefs main_arg2, by decide⟩)).trans (V5_main_arg2 m _ c),
    (hm main_arg3 (Finset.mem_filter.mpr ⟨StableHlo.devRef_mem_tcRefs main_arg3, by decide⟩)).trans (V5_main_arg3 m _ c),
    (hm main_arg4 (Finset.mem_filter.mpr ⟨StableHlo.devRef_mem_tcRefs main_arg4, by decide⟩)).trans (V5_main_arg4 m _ c),
    (hm main_arg5 (Finset.mem_filter.mpr ⟨StableHlo.devRef_mem_tcRefs main_arg5, by decide⟩)).trans (V5_main_arg5 m _ c)⟩
  · rw [V5_v0_0, e4, zhat0_eq]
  · rw [V5_v0_1, e4, zhat1_eq]
  · rw [V5_v0_2, e2, mask_eq]
  · rw [V5_v0_5, e5, mean_eq]

end Cert.KernelIdeal.Hand

namespace Cert.Proof.Algebraic

open Idealize.ShloMosaic Idealize.ShloMosaic.TcCoe Idealize.SL.Sem
open Cert.KernelIdeal.Hand Cert.ReferenceIdeal.Hand

/-- From arguments that agree, the idealized kernel and the idealized reference end at the same six results. -/
theorem algebraic : Cert.algebraic_KernelIdeal_ReferenceIdeal := by
  intro m ρ m' ρ' _ hagree
  refine ⟨_, _, _, _, _, _, run_values m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨g0, g1, g2, g3, g4, g5⟩ := hagree c
  have hp : probsM m' c = probs m c := by
    unfold probsM probs
    rw [g0, g1, g2, g3, g4, g5]
    rfl
  refine ⟨h0.trans ((out0 m' c).trans ?_), h1.trans ((out1 m' c).trans ?_), h2.trans ((out2 m' c).trans ?_), h3.trans ((out3 m' c).trans hp),
    h4.trans ((out4 m' c).trans ?_), h5.trans ((out5 m' c).trans ?_), hargs⟩
  · rw [hp, g0]; rfl
  · rw [hp, g1]; rfl
  · rw [hp]
  · rw [hp]
  · rw [hp]

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Frames.frame_p, Frames.frame_pi, Frames.frame_ri, Frames.preserves, Algebraic.algebraic⟩

end Cert.Proof

end
